-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_exact_pre_unit_range [hKernelIdeal : Cert.KernelIdeal.Facts] [hPre_unit_range : Cert.Pre_unit_range.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v18))) = (fun _ => 1#1))

def Claim : Prop :=
  ∃ (hKernel : Cert.Kernel.Facts) (hKernelIdeal : Cert.KernelIdeal.Facts) (hReferenceIdeal : Cert.ReferenceIdeal.Facts) (hPre_unit_range : Cert.Pre_unit_range.Facts) (hPost_near_exact : Cert.Post_near_exact.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
    ∧ holds_KernelIdeal_near_exact_pre_unit_range (hKernelIdeal := hKernelIdeal) (hPre_unit_range := hPre_unit_range) (hPost_near_exact := hPost_near_exact)
-- ==== Post_near_exact.lean ====
abbrev S16777216 : Shape := ⟨1, ![16777216]⟩
abbrev S1 : Shape := ⟨1, ![1]⟩
abbrev S_ : Shape := ⟨0, ![]⟩

class Facts : Prop where
  bcast_S1_S16777216_0 : S1.BroadcastsInDim S16777216 (![0] : Fin 1 → Fin S16777216.rank)
  bcast_S_S16777216 : S_.BroadcastsInDim S16777216 (![] : Fin 0 → Fin S16777216.rank)
  reducesTo_S16777216_S_d0 : S16777216.ReducesTo [0] S_
  h_S_ : 0 < S_.numel

variable [Facts]

def fn_part2 {F : FTy → Type} [FloatOps F] (main_arg4 : FVec F S_ .f32) (main_v34 : FVec F S_ .f32) (main_v37 : FVec F S_ .f32) (main_v38 : FVec F S_ .f32) (main_v39 : FVec F S_ .f32) : IVec S_ 1 :=
  let main_v40 : FVec F S_ .f32 := addf main_v39 main_v34
  let main_v41 : FVec F S_ .f32 := addf main_v40 main_v37
  let main_cst_7 : FVec F S_ .f32 := constant S_ .f32 0x2EDBE6FF#32
  let main_v42 : FVec F S_ .f32 := addf main_v41 main_cst_7
  let main_v43 : FVec F S_ .f32 := Host.divf main_v38 main_v42
  let main_cst_8 : FVec F S_ .f32 := constant S_ .f32 0x2EDBE6FF#32
  let main_v44 : FVec F S_ .f32 := addf main_v43 main_cst_8
  let main_v45 : FVec F S_ .f32 := Host.log main_v44
  let main_cst_9 : FVec F S_ .f32 := constant S_ .f32 0xBF800000#32
  let main_v46 : FVec F S_ .f32 := mulf main_cst_9 main_v45
  let main_v47 : FVec F S_ .f32 := subf main_arg4 main_v46
  let main_v48 : FVec F S_ .f32 := Host.absf main_v47
  let main_cst_10 : FVec F S_ .f32 := constant S_ .f32 0x3C800000#32
  let main_v49 : IVec S_ 1 := cmpf .ole main_v48 main_cst_10
  main_v49

def fn_part1 {F : FTy → Type} [FloatOps F] (main_arg4 : FVec F S_ .f32) (main_v8 : FVec F S16777216 .f32) (main_v9 : FVec F S16777216 .f32) (main_v13 : FVec F S16777216 .f32) (main_v15 : FVec F S16777216 .f32) (main_v17 : FVec F S16777216 .f32) (main_v20 : FVec F S16777216 .f32) (main_v21 : FVec F S16777216 .f32) : IVec S_ 1 :=
  let main_v22 : FVec F S16777216 .f32 := subf main_v21 main_v9
  let main_v23 : FVec F S16777216 .f32 := mulf main_v20 main_v22
  let main_cst_1 : FVec F S_ .f32 := constant S_ .f32 0x00000000#32
  let main_v24 : FVec F S_ .f32 := (fun x v => Host.reduceAdd x v reducesTo_S16777216_S_d0 h_S_) main_v23 main_cst_1
  let main_cst_2 : FVec F S_ .f32 := constant S_ .f32 0x3F800000#32
  let main_v25 : FVec F S16777216 .f32 := broadcastInDim S16777216 ![] bcast_S_S16777216 main_cst_2
  let main_v26 : FVec F S16777216 .f32 := subf main_v25 main_v8
  let main_v27 : FVec F S16777216 .f32 := mulf main_v13 main_v26
  let main_v28 : FVec F S16777216 .f32 := mulf main_v27 main_v9
  let main_cst_3 : FVec F S_ .f32 := constant S_ .f32 0x00000000#32
  let main_v29 : FVec F S_ .f32 := (fun x v => Host.reduceAdd x v reducesTo_S16777216_S_d0 h_S_) main_v28 main_cst_3
  let main_v30 : FVec F S16777216 .f32 := mulf main_v15 main_v8
  let main_cst_4 : FVec F S_ .f32 := constant S_ .f32 0x3F800000#32
  let main_v31 : FVec F S16777216 .f32 := broadcastInDim S16777216 ![] bcast_S_S16777216 main_cst_4
  let main_v32 : FVec F S16777216 .f32 := subf main_v31 main_v9
  let main_v33 : FVec F S16777216 .f32 := mulf main_v30 main_v32
  let main_cst_5 : FVec F S_ .f32 := constant S_ .f32 0x00000000#32
  let main_v34 : FVec F S_ .f32 := (fun x v => Host.reduceAdd x v reducesTo_S16777216_S_d0 h_S_) main_v33 main_cst_5
  let main_v35 : FVec F S16777216 .f32 := mulf main_v17 main_v8
  let main_v36 : FVec F S16777216 .f32 := mulf main_v35 main_v9
  let main_cst_6 : FVec F S_ .f32 := constant S_ .f32 0x00000000#32
  let main_v37 : FVec F S_ .f32 := (fun x v => Host.reduceAdd x v reducesTo_S16777216_S_d0 h_S_) main_v36 main_cst_6
  let main_v38 : FVec F S_ .f32 := addf main_v24 main_v37
  let main_v39 : FVec F S_ .f32 := addf main_v24 main_v29
  fn_part2 (F := F) main_arg4 main_v34 main_v37 main_v38 main_v39

def fn {F : FTy → Type} [FloatOps F] (main_arg0 : FVec F S16777216 .f32) (main_arg1 : FVec F S16777216 .f32) (main_arg2 : FVec F S1 .f32) (main_arg3 : FVec F S1 .f32) (main_arg4 : FVec F S_ .f32) : IVec S_ 1 :=
  let main_v0 : FVec F S16777216 .f32 := broadcastInDim S16777216 ![0] bcast_S1_S16777216_0 main_arg2
  let main_v1 : IVec S16777216 1 := cmpf .ole main_arg0 main_v0
  let main_v2 : FVec F S16777216 .f32 := broadcastInDim S16777216 ![0] bcast_S1_S16777216_0 main_arg3
  let main_v3 : IVec S16777216 1 := cmpf .ole main_arg1 main_v2
  let main_v4 : FVec F S16777216 .f32 := broadcastInDim S16777216 ![0] bcast_S1_S16777216_0 main_arg2
  let main_v5 : IVec S16777216 1 := cmpf .ogt main_arg0 main_v4
  let main_v6 : FVec F S16777216 .f32 := broadcastInDim S16777216 ![0] bcast_S1_S16777216_0 main_arg3
  let main_v7 : IVec S16777216 1 := cmpf .ogt main_arg1 main_v6
  let main_v8 : FVec F S16777216 .f32 := Host.tanh main_arg0
  let main_v9 : FVec F S16777216 .f32 := Host.tanh main_arg1
  let main_v10 : IVec S16777216 1 := andi main_v1 main_v3
  let main_v11 : FVec F S16777216 .f32 := uitofp .f32 main_v10
  let main_v12 : IVec S16777216 1 := andi main_v1 main_v7
  let main_v13 : FVec F S16777216 .f32 := uitofp .f32 main_v12
  let main_v14 : IVec S16777216 1 := andi main_v5 main_v3
  let main_v15 : FVec F S16777216 .f32 := uitofp .f32 main_v14
  let main_v16 : IVec S16777216 1 := andi main_v5 main_v7
  let main_v17 : FVec F S16777216 .f32 := uitofp .f32 main_v16
  let main_cst : FVec F S_ .f32 := constant S_ .f32 0x3F800000#32
  let main_v18 : FVec F S16777216 .f32 := broadcastInDim S16777216 ![] bcast_S_S16777216 main_cst
  let main_v19 : FVec F S16777216 .f32 := subf main_v18 main_v8
  let main_v20 : FVec F S16777216 .f32 := mulf main_v11 main_v19
  let main_cst_0 : FVec F S_ .f32 := constant S_ .f32 0x3F800000#32
  let main_v21 : FVec F S16777216 .f32 := broadcastInDim S16777216 ![] bcast_S_S16777216 main_cst_0
  fn_part1 (F := F) main_arg4 main_v8 main_v9 main_v13 main_v15 main_v17 main_v20 main_v21
-- ==== Pre_unit_range.lean ====
abbrev S16777216 : Shape := ⟨1, ![16777216]⟩
abbrev S1 : Shape := ⟨1, ![1]⟩
abbrev S_ : Shape := ⟨0, ![]⟩

class Facts : Prop where
  bcast_S_S16777216 : S_.BroadcastsInDim S16777216 (![] : Fin 0 → Fin S16777216.rank)

variable [Facts]

def fn {F : FTy → Type} [FloatOps F] (main_arg0 : FVec F S16777216 .f32) (main_arg1 : FVec F S16777216 .f32) (main_arg2 : FVec F S1 .f32) (main_arg3 : FVec F S1 .f32) : IVec S16777216 1 :=
  let main_cst : FVec F S_ .f32 := constant S_ .f32 0x00000000#32
  let main_v0 : FVec F S16777216 .f32 := broadcastInDim S16777216 ![] bcast_S_S16777216 main_cst
  let main_v1 : IVec S16777216 1 := cmpf .oge main_arg0 main_v0
  let main_cst_0 : FVec F S_ .f32 := constant S_ .f32 0x3F800000#32
  let main_v2 : FVec F S16777216 .f32 := broadcastInDim S16777216 ![] bcast_S_S16777216 main_cst_0
  let main_v3 : IVec S16777216 1 := cmpf .ole main_arg0 main_v2
  let main_v4 : IVec S16777216 1 := andi main_v1 main_v3
  let main_cst_1 : FVec F S_ .f32 := constant S_ .f32 0x00000000#32
  let main_v5 : FVec F S16777216 .f32 := broadcastInDim S16777216 ![] bcast_S_S16777216 main_cst_1
  let main_v6 : IVec S16777216 1 := cmpf .oge main_arg1 main_v5
  let main_v7 : IVec S16777216 1 := andi main_v4 main_v6
  let main_cst_2 : FVec F S_ .f32 := constant S_ .f32 0x3F800000#32
  let main_v8 : FVec F S16777216 .f32 := broadcastInDim S16777216 ![] bcast_S_S16777216 main_cst_2
  let main_v9 : IVec S16777216 1 := cmpf .ole main_arg1 main_v8
  let main_v10 : IVec S16777216 1 := andi main_v7 main_v9
  main_v10
-- ==== Kernel.lean ====
abbrev S16777216 : Shape := ⟨1, ![16777216]⟩
abbrev S1 : Shape := ⟨1, ![1]⟩
abbrev S16 : Shape := ⟨1, ![16]⟩
abbrev S32x16 : Shape := ⟨2, ![32, 16]⟩
abbrev S8192 : Shape := ⟨1, ![8192]⟩
abbrev S_ : Shape := ⟨0, ![]⟩
abbrev S1x16 : Shape := ⟨2, ![1, 16]⟩
abbrev S131072x128 : Shape := ⟨2, ![131072, 128]⟩
abbrev S1x128 : Shape := ⟨2, ![1, 128]⟩
abbrev S8192x128 : Shape := ⟨2, ![8192, 128]⟩
abbrev S128 : Shape := ⟨1, ![128]⟩

abbrev nBuf : Table → Nat
  | .hbm => 33
  | .local .tc .vmem => 6
  | .local .tc .smem => 2
  | .local .scVector .vmem => 7
  | _ => 0

abbrev bufTy : (tb : Table) → Fin (nBuf tb) → BufTy
  | .hbm, ⟨0, _⟩ => ⟨S16777216, .f32⟩
  | .hbm, ⟨1, _⟩ => ⟨S16777216, .f32⟩
  | .hbm, ⟨2, _⟩ => ⟨S1, .f32⟩
  | .hbm, ⟨3, _⟩ => ⟨S1, .f32⟩
  | .hbm, ⟨4, _⟩ => ⟨S16, .f32⟩
  | .hbm, ⟨5, _⟩ => ⟨S16, .f32⟩
  | .hbm, ⟨6, _⟩ => ⟨S32x16, .f32⟩
  | .hbm, ⟨7, _⟩ => ⟨S32x16, .f32⟩
  | .hbm, ⟨8, _⟩ => ⟨S131072x128, .f32⟩
  | .hbm, ⟨9, _⟩ => ⟨S131072x128, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local .tc .vmem, ⟨0, _⟩ => ⟨S8192x128, .f32⟩
  | .local .tc .vmem, ⟨1, _⟩ => ⟨S8192x128, .f32⟩
  | .local .tc .vmem, ⟨2, _⟩ => ⟨S8192x128, .f32⟩
  | .local .tc .vmem, ⟨3, _⟩ => ⟨S8192x128, .f32⟩
  | .local .tc .vmem, ⟨4, _⟩ => ⟨S1x128, .f32⟩
  | .local .tc .vmem, ⟨5, _⟩ => ⟨S1x128, .f32⟩
  | .local .tc .smem, ⟨0, _⟩ => ⟨S1, .f32⟩
  | .local .tc .smem, ⟨1, _⟩ => ⟨S1, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S16, .f32⟩
  | .local .scVector .vmem, ⟨5, _⟩ => ⟨S16, .f32⟩
  | .local .scVector .vmem, ⟨6, _⟩ => ⟨S16, .f32⟩
  | _, _ => ⟨S16777216, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_0_scv : Ref sig .scVector := ⟨.hbm, 6, rfl⟩
abbrev main_v2_1_scv : Ref sig .scVector := ⟨.hbm, 7, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg0_0 : Ref sig .tc := ⟨.smem, 0, rfl⟩
abbrev cc1_stg1_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c12582912_i32 : BitVec 32 := 12582912#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v3 : BitVec 32 := Scalar.addi c12582912_i32 v2
  let c0_i32 : BitVec 32 := 0#32
  let v8 : BitVec 32 := Scalar.addi v3 c0_i32
  ![v8.toNat]
@[reducible] def k0_t1_loop : Scf.Loop 32 :=
  let c0_i32_1 : BitVec 32 := 0#32
  let c8_i32 : BitVec 32 := 8#32
  let v14 : BitVec 32 := Scalar.addi c0_i32_1 c8_i32
  let c1_i32 : BitVec 32 := 1#32
  ⟨c0_i32_1, v14, c1_i32⟩
def k0_off2 (i : grid0.Coords) (k0_t1 : Fin k0_t1_loop.trips) : Fin 1 → Nat :=
  let c12582912_i32 : BitVec 32 := 12582912#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v3 : BitVec 32 := Scalar.addi c12582912_i32 v2
  let c0_i32_1 : BitVec 32 := 0#32
  let c1_i32 : BitVec 32 := 1#32
  let arg19 : BitVec 32 := Scf.iv c0_i32_1 c1_i32 k0_t1
  let c2_i32_5 : BitVec 32 := 2#32
  let v22 : BitVec 32 := Scalar.muli arg19 c2_i32_5
  let c1_i32_6 : BitVec 32 := 1#32
  let v23 : BitVec 32 := Scalar.addi v22 c1_i32_6
  let c8192_i32 : BitVec 32 := 8192#32
  let v24 : BitVec 32 := Scalar.muli v23 c8192_i32
  let v25 : BitVec 32 := Scalar.addi v3 v24
  ![v25.toNat]
@[reducible] def k0_t2_loop : Scf.Loop 32 :=
  let c0_i32_11 : BitVec 32 := 0#32
  let c128_i32 : BitVec 32 := 128#32
  let v34 : BitVec 32 := Scalar.addi c0_i32_11 c128_i32
  let c1_i32_12 : BitVec 32 := 1#32
  ⟨c0_i32_11, v34, c1_i32_12⟩
def k0_off3 (k0_t2 : Fin k0_t2_loop.trips) (c0_i32_24 : BitVec 32) : Fin 1 → Nat :=
  let c0_i32_11 : BitVec 32 := 0#32
  let c1_i32_12 : BitVec 32 := 1#32
  let arg22 : BitVec 32 := Scf.iv c0_i32_11 c1_i32_12 k0_t2
  let c64_i32 : BitVec 32 := 64#32
  let v46 : BitVec 32 := Scalar.muli arg22 c64_i32
  let v47 : BitVec 32 := Scalar.addi v46 c0_i32_24
  let v48 : Index := Scalar.indexCast v47
  ![v48.toNat]
def k0_cond1 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c2_i32_5 : BitVec 32 := 2#32
  let v22 : BitVec 32 := Scalar.muli arg19 c2_i32_5
  let c2_i32_14 : BitVec 32 := 2#32
  let v36 : BitVec 32 := Scalar.addi v22 c2_i32_14
  let c16_i32 : BitVec 32 := 16#32
  let v37 : BitVec 1 := Scalar.cmpi .slt v36 c16_i32
  let v38 : BitVec 32 := Scalar.extui v37
  let c0_i32_15 : BitVec 32 := 0#32
  let v39 : BitVec 1 := Scalar.cmpi .ne v38 c0_i32_15
  v39

def k0_off4 (i : grid0.Coords) (k0_t1 : Fin k0_t1_loop.trips) : Fin 1 → Nat :=
  let c12582912_i32 : BitVec 32 := 12582912#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v3 : BitVec 32 := Scalar.addi c12582912_i32 v2
  let c0_i32_1 : BitVec 32 := 0#32
  let c1_i32 : BitVec 32 := 1#32
  let arg19 : BitVec 32 := Scf.iv c0_i32_1 c1_i32 k0_t1
  let c2_i32_5 : BitVec 32 := 2#32
  let v22 : BitVec 32 := Scalar.muli arg19 c2_i32_5
  let c2_i32_24 : BitVec 32 := 2#32
  let v46 : BitVec 32 := Scalar.addi v22 c2_i32_24
  let c8192_i32_25 : BitVec 32 := 8192#32
  let v47 : BitVec 32 := Scalar.muli v46 c8192_i32_25
  let v48 : BitVec 32 := Scalar.addi v3 v47
  ![v48.toNat]
@[reducible] def k0_t3_loop : Scf.Loop 32 :=
  let c0_i32_20 : BitVec 32 := 0#32
  let c128_i32_21 : BitVec 32 := 128#32
  let v44 : BitVec 32 := Scalar.addi c0_i32_20 c128_i32_21
  let c1_i32_22 : BitVec 32 := 1#32
  ⟨c0_i32_20, v44, c1_i32_22⟩
def k0_off5 (k0_t3 : Fin k0_t3_loop.trips) (c0_i32_24 : BitVec 32) : Fin 1 → Nat :=
  let c0_i32_20 : BitVec 32 := 0#32
  let c1_i32_22 : BitVec 32 := 1#32
  let arg22 : BitVec 32 := Scf.iv c0_i32_20 c1_i32_22 k0_t3
  let c64_i32 : BitVec 32 := 64#32
  let v46 : BitVec 32 := Scalar.muli arg22 c64_i32
  let v47 : BitVec 32 := Scalar.addi v46 c0_i32_24
  let v48 : Index := Scalar.indexCast v47
  ![v48.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_10 : BitVec 32 := 0#32
  let v29 : BitVec 1 := Scalar.cmpi .ne v28 c0_i32_10
  v29

def k1_cond2 (i : grid1.Coords) : BitVec 1 :=
  let arg0 : BitVec 32 := BitVec.ofNat 32 (i 0).val
  let c0_i32_11 : BitVec 32 := 0#32
  let v30 : BitVec 1 := Scalar.cmpi .ne arg0 c0_i32_11
  let v31 : BitVec 32 := Scalar.extui v30
  let c0_i32_12 : BitVec 32 := 0#32
  let v32 : BitVec 1 := Scalar.cmpi .ne v31 c0_i32_12
  v32

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S1 : Shape := ⟨1, ![1]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S1, .f32⟩
  | .hbm, ⟨3, _⟩ => ⟨S1, .f32⟩
  | .hbm, ⟨4, _⟩ => ⟨S16777216, .i32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S16777216, .f32⟩
  | .hbm, ⟨9, _⟩ => ⟨S16777216, .i1⟩
  | .hbm, ⟨10, _⟩ => ⟨S16777216, .f32⟩
  | .hbm, ⟨11, _⟩ => ⟨S16777216, .i1⟩
  | .hbm, ⟨12, _⟩ => ⟨S16777216, .f32⟩
  | .hbm, ⟨13, _⟩ => ⟨S16777216, .i1⟩
  | .hbm, ⟨14, _⟩ => ⟨S16777216, .f32⟩
  | .hbm, ⟨15, _⟩ => ⟨S16777216, .i1⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S_, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S_, .f32⟩
  | .hbm, ⟨42, _⟩ => ⟨S16777216, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S16777216, .i1⟩
  | .hbm, ⟨47, _⟩ => ⟨S16777216, .f32⟩
  | .hbm, ⟨48, _⟩ => ⟨S16777216, .i1⟩
  | .hbm, ⟨49, _⟩ => ⟨S16777216, .f32⟩
  | .hbm, ⟨50, _⟩ => ⟨S16777216, .i1⟩
  | .hbm, ⟨51, _⟩ => ⟨S16777216, .f32⟩
  | .hbm, ⟨52, _⟩ => ⟨S16777216, .i1⟩
  | .hbm, ⟨53, _⟩ => ⟨S16777216, .f32⟩
  | .hbm, ⟨54, _⟩ => ⟨S_, .f32⟩
  | .hbm, ⟨55, _⟩ => ⟨S16777216, .f32⟩
  | .hbm, ⟨56, _⟩ => ⟨S16777216, .f32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16777216, .f32⟩
  | .hbm, ⟨66, _⟩ => ⟨S16777216, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S_, .f32⟩
  | .hbm, ⟨71, _⟩ => ⟨S16777216, .f32⟩
  | .hbm, ⟨72, _⟩ => ⟨S_, .f32⟩
  | .hbm, ⟨73, _⟩ => ⟨S16777216, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Proof.Common.lean ====
/-
  What every part of the proof is written over: the printed program as the launch theorem sees it, the resource algebra
  (the handshakes' rounds, the TensorCore pipeline's rounds, the counters of local transfers), the arrays the SparseCore
  call touches, and the values it computes — stated for any float values `F`, so that one run serves `Kernel` at its bits
  and `KernelIdeal` at the extended reals.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Transfers
public import Idealize.ShloMosaic.Lib.Tactic

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
/-- The one SparseCore call. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the handshake's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds live. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the pipeline's rounds live. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- Where the local transfers' counters live. -/
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : UEmb Counters 𝕄).LandsIn (upEmb : UEmb _ 𝕄) := by infer_instance

/-! ## The values one vector subcore computes -/

section Values

variable [FloatOps F]

/-- The first element of the slice of worker `w`: the last 4194304 elements in 32 runs of 131072. -/
abbrev base (w : Fin 32) : ℕ := 12582912 + 131072 * w.val

/-- The `n`-th group of sixteen elements of worker `w`'s slice of an array. -/
def grp (A : S16777216.Idx → F .f32) (w : Fin 32) (n : Fin 8192) : FVec F S16 .f32 :=
  fun j => A (ix1 ⟨base w + 16 * n.val + (j 0).val, by
    have h1 := w.isLt; have h2 := n.isLt; have h3 : (j 0).val < 16 := (j 0).isLt
    unfold base; omega⟩)

/-- One sixteen-lane step: the signed product added to the first accumulator, its absolute value to the second. -/
def laneStep (te tu e u : FVec F S16 .f32) (acc : FVec F S16 .f32 × FVec F S16 .f32) : FVec F S16 .f32 × FVec F S16 .f32 :=
  (addf acc.1 (k0_pay1 te tu e u), addf acc.2 (absf (k0_pay1 te tu e u)))

/-- The accumulators of worker `w` after the first `n` groups of its slice. -/
def accW (A0 A1 : S16777216.Idx → F .f32) (te tu : FVec F S16 .f32) (w : Fin 32) : ℕ → FVec F S16 .f32 × FVec F S16 .f32
  | 0 => (k0_pay41, k0_pay41)
  | n + 1 => if h : n < 8192 then laneStep te tu (grp A0 w ⟨n, h⟩) (grp A1 w ⟨n, h⟩) (accW A0 A1 te tu w n) else accW A0 A1 te tu w n

theorem accW_succ (A0 A1 : S16777216.Idx → F .f32) (te tu : FVec F S16 .f32) (w : Fin 32) (n : ℕ) (h : n < 8192) :
    accW A0 A1 te tu w (n + 1) = laneStep te tu (grp A0 w ⟨n, h⟩) (grp A1 w ⟨n, h⟩) (accW A0 A1 te tu w n) := dif_pos h

/-- The array of first accumulators the thirty-two workers leave, a row each. -/
def outQ (A0 A1 : S16777216.Idx → F .f32) (te tu : FVec F S16 .f32) : S32x16.Idx → F .f32 :=
  fun x => (accW A0 A1 te tu (x 0) 8192).1 (ix1 (n0 := 16) (x 1))
/-- The array of second accumulators. -/
def outD (A0 A1 : S16777216.Idx → F .f32) (te tu : FVec F S16 .f32) : S32x16.Idx → F .f32 :=
  fun x => (accW A0 A1 te tu (x 0) 8192).2 (ix1 (n0 := 16) (x 1))

end Values

/-! ## The launch memory, the arrays of the SparseCore call, and what its handshakes carry -/

variable (m : (ℓ : Loc nD τ sig) → Buf (Elt F) ℓ)

/-- The two arrays of samples, the two broadcast thresholds and the two results of the SparseCore call, as locations of
    device `d`. -/
abbrev eLoc (d : Dev nD) : Loc nD τ sig := (SparseCore.T d).loc main_arg0
abbrev uLoc (d : Dev nD) : Loc nD τ sig := (SparseCore.T d).loc main_arg1
abbrev etLoc (d : Dev nD) : Loc nD τ sig := (SparseCore.T d).loc main_v0
abbrev utLoc (d : Dev nD) : Loc nD τ sig := (SparseCore.T d).loc main_v1
abbrev qLoc (d : Dev nD) : Loc nD τ sig := (SparseCore.T d).loc main_v2_0
abbrev dLoc (d : Dev nD) : Loc nD τ sig := (SparseCore.T d).loc main_v2_1

/-- The samples at launch. -/
abbrev errA (d : Dev nD) : S16777216.Idx → F .f32 := m (eLoc d)
abbrev uncA (d : Dev nD) : S16777216.Idx → F .f32 := m (uLoc d)
/-- The thresholds at launch, one element each. -/
abbrev ethA (d : Dev nD) : S1.Idx → F .f32 := m ((SparseCore.T d).loc main_arg2)
abbrev uthA (d : Dev nD) : S1.Idx → F .f32 := m ((SparseCore.T d).loc main_arg3)
/-- The thresholds broadcast to the sixteen lanes of a vector subcore. -/
abbrev ethB (d : Dev nD) : FVec F S16 .f32 := broadcastInDim S16 ![0] bcast_S1_S16_0 (ethA m d)
abbrev uthB (d : Dev nD) : FVec F S16 .f32 := broadcastInDim S16 ![0] bcast_S1_S16_0 (uthA m d)

/-- The share of an array that every vector subcore reads which subcore `(c, i)` holds: one of sixteen of one of two. -/
abbrev tokq (c : Fin 2) (i : Fin 16) : PosShare TreeShare := Transfers.shareTok (Transfers.shareTok fullShare 2 c) 16 i

/-- The thirty-two rows of a result of the SparseCore call. -/
theorem hdiv : 32 ∣ S32x16.size 0 := ⟨1, rfl⟩
abbrev row (w : Fin 32) : Rect S32x16 := Rect.part (s := S32x16) (a₀ := 0) hdiv w
abbrev rowSet (w : Fin 32) : Finset S32x16.Idx := (row w).set

/-- The worker number of vector subcore `i` of SparseCore `c`. -/
abbrev wid (c : Fin 2) (i : Fin 16) : Fin 32 := ⟨2 * i.val + c.val, by omega⟩

section Payloads

variable [FloatOps F]

/-- The first result of the SparseCore call, from the launch memory. -/
abbrev resQ (d : Dev nD) : S32x16.Idx → F .f32 := outQ (errA m d) (uncA m d) (k0_pay39 (ethB m d)) (k0_pay40 (uthB m d))
/-- The second result. -/
abbrev resD (d : Dev nD) : S32x16.Idx → F .f32 := outD (errA m d) (uncA m d) (k0_pay39 (ethB m d)) (k0_pay40 (uthB m d))

/-- The read shares of subcore `(c, i)`: of the samples and of the broadcast thresholds. -/
abbrev readsR (d : Dev nD) (c : Fin 2) (i : Fin 16) : sProp 𝕄 :=
  iprop((eLoc d ↦{tokq c i} errA m d) ∗ (uLoc d ↦{tokq c i} uncA m d) ∗ (etLoc d ↦{tokq c i} ethB m d) ∗ (utLoc d ↦{tokq c i} uthB m d))

/-- What the task of subcore `(c, i)` is handed: its read shares and its row of each result. -/
abbrev goR (d : Dev nD) (c : Fin 2) (i : Fin 16) : sProp 𝕄 :=
  iprop(readsR m d c i ∗ (qLoc d ↦[rowSet (wid c i)]{fullShare} m (qLoc d)) ∗ (dLoc d ↦[rowSet (wid c i)]{fullShare} m (dLoc d)))
/-- What it hands back: the same, each row at what the worker computes. -/
abbrev tdR (d : Dev nD) (c : Fin 2) (i : Fin 16) : sProp 𝕄 :=
  iprop(readsR m d c i ∗ (qLoc d ↦[rowSet (wid c i)]{fullShare} resQ m d) ∗ (dLoc d ↦[rowSet (wid c i)]{fullShare} resD m d))

theorem nSub_zero : (K (F := F)).nSub 0 = 16 := rfl
theorem nCore_zero : (K (F := F)).nCore 0 = 2 := rfl

/-- The one call: a SparseCore's operands are those of its sixteen tasks. -/
def P : (K (F := F)).Pay (nD := nD) (Val := Elt F) (Name := ℕ) (U := UU) where
  st := fun q d c => match q with | 0 => bigSep Finset.univ fun i : Fin 16 => goR m d (Fin.cast nCore_zero c) i
  dn := fun q d c => match q with | 0 => bigSep Finset.univ fun i : Fin 16 => tdR m d (Fin.cast nCore_zero c) i
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goR m d (Fin.cast nCore_zero c) i))
  dn q d c := match q with
    | 0 => (inferInstance : BI.Storable (upEmb : UEmb _ 𝕄) (bigSep Finset.univ fun i : Fin 16 => tdR m d (Fin.cast nCore_zero c) i))
  go q d c i := match q with
    | 0 => (inferInstance : BI.Storable (upEmb : UEmb _ 𝕄) (goR m d (Fin.cast nCore_zero c) (Fin.cast nSub_zero i)))
  td q d c i := match q with
    | 0 => (inferInstance : BI.Storable (upEmb : UEmb _ 𝕄) (tdR m d (Fin.cast nCore_zero c) (Fin.cast nSub_zero i)))

end Payloads

end Cert.Proof

end
-- ==== Proof.Chunks.lean ====
/-
  What a vector subcore reads: the chunks of 8192 elements its copies bring in and the groups of sixteen its loads take from them, as parts of the two
  arrays of samples; and what four sixteen-lane steps of the kernel's unrolled loop body make of the accumulators.
-/
module

public import proofs.«01_k».proof.Proof.Common

@[expose] public section

noncomputable section

namespace Cert.Proof

open Cert.KernelIdeal Cert.KernelIdeal.Gen

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays and scratch buffers as the kernel names them -/

abbrev eV : Memref sig .scVector .hbm S16777216 .f32 := Memref.whole main_arg0_scv
abbrev uV : Memref sig .scVector .hbm S16777216 .f32 := Memref.whole main_arg1_scv
abbrev etV : Memref sig .scVector .hbm S16 .f32 := Memref.whole main_v0_scv
abbrev utV : Memref sig .scVector .hbm S16 .f32 := Memref.whole main_v1_scv
abbrev qV : Memref sig .scVector .hbm S32x16 .f32 := Memref.whole main_v2_0_scv
abbrev dV : Memref sig .scVector .hbm S32x16 .f32 := Memref.whole main_v2_1_scv
/-- The two buffers of the first array's chunks, then of the second's. -/
abbrev bE0 : Memref sig .scVector .vmem S8192 .f32 := Memref.whole cc0_scratch0
abbrev bE1 : Memref sig .scVector .vmem S8192 .f32 := Memref.whole cc0_scratch1
abbrev bU0 : Memref sig .scVector .vmem S8192 .f32 := Memref.whole cc0_scratch2
abbrev bU1 : Memref sig .scVector .vmem S8192 .f32 := Memref.whole cc0_scratch3
/-- The thresholds' buffers and the one the results leave through. -/
abbrev bTe : Memref sig .scVector .vmem S16 .f32 := Memref.whole cc0_scratch4
abbrev bTu : Memref sig .scVector .vmem S16 .f32 := Memref.whole cc0_scratch5
abbrev bOut : Memref sig .scVector .vmem S16 .f32 := Memref.whole cc0_scratch6

/-! ## Chunks -/

/-- Chunk `c` of worker `w`'s slice. -/
def chunk (A : S16777216.Idx → F .f32) (w : Fin 32) (c : Fin 16) : S8192.Idx → F .f32 :=
  fun j => A (ix1 ⟨base w + 8192 * c.val + (j 0).val, by
    have h1 := w.isLt; have h2 := c.isLt; have h3 : (j 0).val < 8192 := (j 0).isLt
    unfold base; omega⟩)

/-- The worker number at grid point `L`. -/
abbrev wL (L : grid0.Coords) : Fin 32 := ⟨2 * (L 1).val + (L 0).val, by
  have h0 : (L 0).val < 2 := (L 0).isLt; have h1 : (L 1).val < 16 := (L 1).isLt; omega⟩

theorem t1_trips : k0_t1_loop.trips = 8 := by decide
theorem t2_trips : k0_t2_loop.trips = 128 := by decide
theorem t3_trips : k0_t3_loop.trips = 128 := by decide

abbrev R1 (L : grid0.Coords) : Rect S16777216 := Rect.unit (s := S16777216) (k0_off1 L) S8192.size (k0_off1_inb L)
abbrev R2 (L : grid0.Coords) (t : Fin k0_t1_loop.trips) : Rect S16777216 := Rect.unit (s := S16777216) (k0_off2 L t) S8192.size (k0_off2_inb L t)
abbrev R4 (L : grid0.Coords) (t : Fin k0_t1_loop.trips) (h : k0_cond1 t = 1#1) : Rect S16777216 :=
  Rect.unit (s := S16777216) (k0_off4 L t) S8192.size (k0_off4_inb L t h)

/-- The slice of 8192 elements of the first array at chunk `c`'s offset, read. -/
theorem read_eV (o : Fin 1 → ℕ) (ho : ∀ a, o a + S8192.size a ≤ S16777216.size a) (A : S16777216.Idx → F .f32) (w : Fin 32) (c : Fin 16)
    (e : o 0 = base w + 8192 * c.val) :
    ((eV.slice (Rect.unit (s := S16777216) o S8192.size ho) (fun _ => rfl)).view.read (Elt F) A : S8192.Idx → F .f32) = chunk A w c := by
  funext j
  rw [View.read_apply]
  refine (cast_eq _ _).trans (congrArg A ?_)
  funext a
  match a with
  | ⟨0, _⟩ =>
    apply Fin.ext
    show o 0 + 1 * (j 0).val = base w + 8192 * c.val + (j 0).val
    rw [e]; omega
/-- The same of the second array. -/
theorem read_uV (o : Fin 1 → ℕ) (ho : ∀ a, o a + S8192.size a ≤ S16777216.size a) (A : S16777216.Idx → F .f32) (w : Fin 32) (c : Fin 16)
    (e : o 0 = base w + 8192 * c.val) :
    ((uV.slice (Rect.unit (s := S16777216) o S8192.size ho) (fun _ => rfl)).view.read (Elt F) A : S8192.Idx → F .f32) = chunk A w c :=
  read_eV o ho A w c e

/-- The offsets of the kernel's slices, as chunks of the worker's slice. -/
theorem off1_at (L : grid0.Coords) : k0_off1 L 0 = base (wL L) + 8192 * (⟨0, by omega⟩ : Fin 16).val := by
  rw [k0_off1_eq]; show 262144 * (L 1).val + 131072 * (L 0).val + 12582912 = 12582912 + 131072 * (2 * (L 1).val + (L 0).val) + 8192 * 0; omega
theorem off2_at (L : grid0.Coords) (t : Fin k0_t1_loop.trips) (ht : 2 * t.val + 1 < 16) : k0_off2 L t 0 = base (wL L) + 8192 * (⟨2 * t.val + 1, ht⟩ : Fin 16).val := by
  rw [k0_off2_eq]
  show 262144 * (L 1).val + 131072 * (L 0).val + 16384 * t.val + 12591104 = 12582912 + 131072 * (2 * (L 1).val + (L 0).val) + 8192 * (2 * t.val + 1); omega
theorem off4_at (L : grid0.Coords) (t : Fin k0_t1_loop.trips) (ht : 2 * t.val + 2 < 16) : k0_off4 L t 0 = base (wL L) + 8192 * (⟨2 * t.val + 2, ht⟩ : Fin 16).val := by
  rw [k0_off4_eq]
  show 262144 * (L 1).val + 131072 * (L 0).val + 16384 * t.val + 12599296 = 12582912 + 131072 * (2 * (L 1).val + (L 0).val) + 8192 * (2 * t.val + 2); omega

/-- The next even chunk is fetched as long as there is one. -/
theorem cond1_iff : ∀ t : Fin k0_t1_loop.trips, k0_cond1 t = 1#1 ↔ 2 * t.val + 2 < 16 := by decide

/-! ## Groups of sixteen -/

/-- A load of sixteen elements at `64 t + 16 r` of a chunk is group `512 c + 4 t + r` of the slice. -/
theorem load_grp (o : Fin 1 → ℕ) (ho : ∀ a, o a + S16.size a ≤ S8192.size a) (A : S16777216.Idx → F .f32) (w : Fin 32) (c : Fin 16) (n : Fin 8192) (x : S8192.Idx → F .f32)
    (hx : x = chunk A w c) (e : 8192 * c.val + o 0 = 16 * n.val) :
    (bE0.view.readAt (Elt F) (Rect.unit (s := S8192) o S16.size ho).toLoadRect x : S16.Idx → F .f32) = grp A w n := by
  subst hx
  funext j
  simp only [View.readAt_apply, Memref.view_whole, View.read_whole]
  unfold chunk grp
  refine congrArg A ?_
  funext a
  match a with
  | ⟨0, _⟩ =>
    apply Fin.ext
    show base w + 8192 * c.val + (o 0 + 1 * (j 0).val) = base w + 16 * n.val + (j 0).val
    omega

/-! ## The unrolled steps -/

section Steps

variable (v4 v6 a b : FVec F S16 .f32)

/-- The four unrolled steps' products are the first's. -/
theorem q2 : k0_pay5 (k0_pay39 v4) (k0_pay40 v6) (k0_pay4 a) b = k0_pay1 (k0_pay39 v4) (k0_pay40 v6) a b := rfl
theorem q3 : k0_pay13 (k0_pay39 v4) (k0_pay40 v6) (k0_pay8 a) (k0_pay9 b) (k0_pay10 a) (k0_pay11 b) (k0_pay12 a) = k0_pay1 (k0_pay39 v4) (k0_pay40 v6) a b := rfl
theorem q4 : k0_pay42 v4 v6 (k0_pay16 a) (k0_pay17 b) (k0_pay18 b) (k0_pay19 a) = k0_pay1 (k0_pay39 v4) (k0_pay40 v6) a b := rfl
/-- The same over the second pair of buffers. -/
theorem q1' : k0_pay20 (k0_pay39 v4) (k0_pay40 v6) a b = k0_pay1 (k0_pay39 v4) (k0_pay40 v6) a b := rfl
theorem q2' : k0_pay24 (k0_pay39 v4) (k0_pay40 v6) (k0_pay23 a) b = k0_pay1 (k0_pay39 v4) (k0_pay40 v6) a b := rfl
theorem q3' : k0_pay32 (k0_pay39 v4) (k0_pay40 v6) (k0_pay27 a) (k0_pay28 b) (k0_pay29 a) (k0_pay30 b) (k0_pay31 a) = k0_pay1 (k0_pay39 v4) (k0_pay40 v6) a b := rfl
theorem q4' : k0_pay45 v4 v6 (k0_pay35 a) (k0_pay36 b) (k0_pay37 b) (k0_pay38 a) = k0_pay1 (k0_pay39 v4) (k0_pay40 v6) a b := rfl

/-- Four sixteen-lane steps. -/
def step4 (te tu a0 b0 a1 b1 a2 b2 a3 b3 : FVec F S16 .f32) (acc : FVec F S16 .f32 × FVec F S16 .f32) : FVec F S16 .f32 × FVec F S16 .f32 :=
  laneStep te tu a3 b3 (laneStep te tu a2 b2 (laneStep te tu a1 b1 (laneStep te tu a0 b0 acc)))

theorem step4_congr {te tu a0 b0 a1 b1 a2 b2 a3 b3 a0' b0' a1' b1' a2' b2' a3' b3' : FVec F S16 .f32} {acc acc' : FVec F S16 .f32 × FVec F S16 .f32}
    (h0 : a0 = a0') (g0 : b0 = b0') (h1 : a1 = a1') (g1 : b1 = b1') (h2 : a2 = a2') (g2 : b2 = b2') (h3 : a3 = a3') (g3 : b3 = b3') (h : acc = acc') :
    step4 te tu a0 b0 a1 b1 a2 b2 a3 b3 acc = step4 te tu a0' b0' a1' b1' a2' b2' a3' b3' acc' := by
  subst h0 g0 h1 g1 h2 g2 h3 g3 h; rfl

variable (x y a0 b0 a1 b1 a2 b2 a3 b3 : FVec F S16 .f32)

/-- A trip over the first pair of buffers yields four steps of the values it loads. -/
theorem quad2 :
    (k0_pay43 v4 v6
        (k0_pay14 (k0_pay39 v4) (k0_pay40 v6)
          (k0_pay6 (k0_pay39 v4) (k0_pay40 v6) (k0_pay2 (k0_pay39 v4) (k0_pay40 v6) x a0 b0) (k0_pay4 a1) b1)
          (k0_pay8 a2) (k0_pay9 b2) (k0_pay10 a2) (k0_pay11 b2) (k0_pay12 a2))
        (k0_pay16 a3) (k0_pay17 b3) (k0_pay18 b3) (k0_pay19 a3),
      k0_pay44 v4 v6
        (k0_pay15 (k0_pay39 v4) (k0_pay40 v6)
          (k0_pay7 (k0_pay39 v4) (k0_pay40 v6) (k0_pay3 (k0_pay39 v4) (k0_pay40 v6) y a0 b0) (k0_pay4 a1) b1)
          (k0_pay8 a2) (k0_pay9 b2) (k0_pay10 a2) (k0_pay11 b2) (k0_pay12 a2))
        (k0_pay16 a3) (k0_pay17 b3) (k0_pay18 b3) (k0_pay19 a3))
      = step4 (k0_pay39 v4) (k0_pay40 v6) a0 b0 a1 b1 a2 b2 a3 b3 (x, y) := by
  unfold k0_pay43 k0_pay44 k0_pay14 k0_pay15 k0_pay6 k0_pay7 k0_pay2 k0_pay3
  rw [q2, q3, q4]; rfl
/-- A trip over the second pair yields the same. -/
theorem quad3 :
    (k0_pay46 v4 v6
        (k0_pay33 (k0_pay39 v4) (k0_pay40 v6)
          (k0_pay25 (k0_pay39 v4) (k0_pay40 v6) (k0_pay21 (k0_pay39 v4) (k0_pay40 v6) x a0 b0) (k0_pay23 a1) b1)
          (k0_pay27 a2) (k0_pay28 b2) (k0_pay29 a2) (k0_pay30 b2) (k0_pay31 a2))
        (k0_pay35 a3) (k0_pay36 b3) (k0_pay37 b3) (k0_pay38 a3),
      k0_pay47 v4 v6
        (k0_pay34 (k0_pay39 v4) (k0_pay40 v6)
          (k0_pay26 (k0_pay39 v4) (k0_pay40 v6) (k0_pay22 (k0_pay39 v4) (k0_pay40 v6) y a0 b0) (k0_pay23 a1) b1)
          (k0_pay27 a2) (k0_pay28 b2) (k0_pay29 a2) (k0_pay30 b2) (k0_pay31 a2))
        (k0_pay35 a3) (k0_pay36 b3) (k0_pay37 b3) (k0_pay38 a3))
      = step4 (k0_pay39 v4) (k0_pay40 v6) a0 b0 a1 b1 a2 b2 a3 b3 (x, y) := by
  unfold k0_pay46 k0_pay47 k0_pay33 k0_pay34 k0_pay25 k0_pay26 k0_pay21 k0_pay22
  rw [q1', q2', q3', q4']; rfl

end Steps

end Cert.Proof

end
-- ==== Proof.Inner.lean ====
/-
  The two inner loops of a vector subcore's task: one run over the chunk in the first pair of buffers, one over the chunk in the second. Each of the
  128 trips makes four sixteen-lane steps, so a run takes the accumulators after `512 c` groups to those after `512 (c + 1)`.
-/
module

public import proofs.«01_k».proof.Proof.Chunks

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The vector subcore at grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The kernel's loop bodies at its own arguments. -/
abbrev body2 (v4 v6 : Vec F S16 .f32) := k0_t2_body (F := F) L eV (Memref.isWhole_whole _) uV (Memref.isWhole_whole _) etV (Memref.isWhole_whole _) utV (Memref.isWhole_whole _)
  qV (Memref.isWhole_whole _) dV (Memref.isWhole_whole _) bE0 (Memref.isWhole_whole _) bE1 (Memref.isWhole_whole _) bU0 (Memref.isWhole_whole _) bU1 (Memref.isWhole_whole _)
  bTe (Memref.isWhole_whole _) bTu (Memref.isWhole_whole _) bOut (Memref.isWhole_whole _) cc0_scratch7 cc0_scratch8 cc0_scratch9 cc0_scratch10 cc0_scoped0 cc0_scoped1 cc0_scoped2 cc0_scoped3 v4 v6
abbrev body3 (v4 v6 : Vec F S16 .f32) := k0_t3_body (F := F) L eV (Memref.isWhole_whole _) uV (Memref.isWhole_whole _) etV (Memref.isWhole_whole _) utV (Memref.isWhole_whole _)
  qV (Memref.isWhole_whole _) dV (Memref.isWhole_whole _) bE0 (Memref.isWhole_whole _) bE1 (Memref.isWhole_whole _) bU0 (Memref.isWhole_whole _) bU1 (Memref.isWhole_whole _)
  bTe (Memref.isWhole_whole _) bTu (Memref.isWhole_whole _) bOut (Memref.isWhole_whole _) cc0_scratch7 cc0_scratch8 cc0_scratch9 cc0_scratch10 cc0_scoped0 cc0_scoped1 cc0_scoped2 cc0_scoped3 v4 v6

/-- Four steps from group `n` on. -/
theorem accW_four (A0 A1 : S16777216.Idx → F .f32) (te tu : FVec F S16 .f32) (w : Fin 32) (n : ℕ) (h : n + 3 < 8192) :
    accW A0 A1 te tu w (n + 4)
      = laneStep te tu (grp A0 w ⟨n + 3, h⟩) (grp A1 w ⟨n + 3, h⟩) (laneStep te tu (grp A0 w ⟨n + 2, by omega⟩) (grp A1 w ⟨n + 2, by omega⟩)
          (laneStep te tu (grp A0 w ⟨n + 1, by omega⟩) (grp A1 w ⟨n + 1, by omega⟩) (laneStep te tu (grp A0 w ⟨n, by omega⟩) (grp A1 w ⟨n, by omega⟩)
            (accW A0 A1 te tu w n)))) := by
  rw [← accW_succ A0 A1 te tu w n (by omega), ← accW_succ A0 A1 te tu w (n + 1) (by omega), ← accW_succ A0 A1 te tu w (n + 2) (by omega),
    ← accW_succ A0 A1 te tu w (n + 3) h]

variable (A0 A1 : S16777216.Idx → F .f32) (v4 v6 : Vec F S16 .f32)

/-- The accumulators of the subcore's worker after `n` groups. -/
abbrev accL (n : ℕ) : FVec F S16 .f32 × FVec F S16 .f32 := accW A0 A1 (k0_pay39 v4) (k0_pay40 v6) (wL L) n

/-- Inside chunk `c` in the first pair of buffers: the buffers hold it, and before trip `k` the accumulators are those after `512 c + 4 k` groups. -/
def inv2 (c : Fin 16) (k : ℕ) (acc : FVec F S16 .f32 × FVec F S16 .f32) : sProp 𝕄 :=
  iprop(⌜acc = accL L A0 A1 v4 v6 (512 * c.val + 4 * k)⌝ ∗ (bE0.view.loc (thr d L) ↦{fullShare} chunk A0 (wL L) c) ∗ (bU0.view.loc (thr d L) ↦{fullShare} chunk A1 (wL L) c))
/-- The same for the second pair. -/
def inv3 (c : Fin 16) (k : ℕ) (acc : FVec F S16 .f32 × FVec F S16 .f32) : sProp 𝕄 :=
  iprop(⌜acc = accL L A0 A1 v4 v6 (512 * c.val + 4 * k)⌝ ∗ (bE1.view.loc (thr d L) ↦{fullShare} chunk A0 (wL L) c) ∗ (bU1.view.loc (thr d L) ↦{fullShare} chunk A1 (wL L) c))

theorem ld2 (c : Fin 16) (k : Fin k0_t2_loop.trips) (A : S16777216.Idx → F .f32) (r : Fin 4) (h : 512 * c.val + 4 * k.val + r.val < 8192) :
    (bE0.view.readAt (Elt F) (Rect.unit (s := S8192) (k0_off3 k (BitVec.ofNat 32 (16 * r.val))) S16.size (k0_off3_inb k r)).toLoadRect (chunk A (wL L) c) : S16.Idx → F .f32)
      = grp A (wL L) ⟨512 * c.val + 4 * k.val + r.val, h⟩ :=
  load_grp _ _ A (wL L) c ⟨_, h⟩ _ rfl (by rw [k0_off3_eq]; show 8192 * c.val + (64 * k.val + 16 * r.val) = 16 * (512 * c.val + 4 * k.val + r.val); omega)
theorem ld3 (c : Fin 16) (k : Fin k0_t3_loop.trips) (A : S16777216.Idx → F .f32) (r : Fin 4) (h : 512 * c.val + 4 * k.val + r.val < 8192) :
    (bE0.view.readAt (Elt F) (Rect.unit (s := S8192) (k0_off5 k (BitVec.ofNat 32 (16 * r.val))) S16.size (k0_off5_inb k r)).toLoadRect (chunk A (wL L) c) : S16.Idx → F .f32)
      = grp A (wL L) ⟨512 * c.val + 4 * k.val + r.val, h⟩ :=
  load_grp _ _ A (wL L) c ⟨_, h⟩ _ rfl (by rw [k0_off5_eq]; show 8192 * c.val + (64 * k.val + 16 * r.val) = 16 * (512 * c.val + 4 * k.val + r.val); omega)

/-- One trip over the first pair of buffers. -/
theorem trip2 (c : Fin 16) (k : Fin k0_t2_loop.trips) (acc : FVec F S16 .f32 × FVec F S16 .f32) :
    inv2 d L A0 A1 v4 v6 c k.val acc ⊢ wp frame (wpE (defs₀ (F := F)) 𝒱₀ (thr d L) none) Set.univ (body2 L v4 v6 k acc) (inv2 d L A0 A1 v4 v6 c (k.val + 1)) := by
  have hk : k.val < 128 := t2_trips ▸ k.isLt
  have hc := c.isLt
  obtain ⟨x, y⟩ := acc
  unfold inv2 body2 k0_t2_body
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨%hacc, HE, HU⟩
  iapply (wp_load 𝒱₀ (thr d L) none Set.univ (m := bE0) (S := Finset.univ) (Finset.subset_univ _)) $$ HE; iintro HE
  iapply (wp_load 𝒱₀ (thr d L) none Set.univ (m := bU0) (S := Finset.univ) (Finset.subset_univ _)) $$ HU; iintro HU
  iapply (wp_load 𝒱₀ (thr d L) none Set.univ (m := bE0) (S := Finset.univ) (Finset.subset_univ _)) $$ HE; iintro HE
  iapply (wp_load 𝒱₀ (thr d L) none Set.univ (m := bU0) (S := Finset.univ) (Finset.subset_univ _)) $$ HU; iintro HU
  iapply (wp_load 𝒱₀ (thr d L) none Set.univ (m := bE0) (S := Finset.univ) (Finset.subset_univ _)) $$ HE; iintro HE
  iapply (wp_load 𝒱₀ (thr d L) none Set.univ (m := bU0) (S := Finset.univ) (Finset.subset_univ _)) $$ HU; iintro HU
  iapply (wp_load 𝒱₀ (thr d L) none Set.univ (m := bE0) (S := Finset.univ) (Finset.subset_univ _)) $$ HE; iintro HE
  iapply (wp_load 𝒱₀ (thr d L) none Set.univ (m := bU0) (S := Finset.univ) (Finset.subset_univ _)) $$ HU; iintro HU
  rw [wp_ret]; imodintro
  isplitr
  · ipureintro
    rw [show 512 * c.val + 4 * (k.val + 1) = (512 * c.val + 4 * k.val) + 4 by omega]
    unfold accL
    rw [accW_four _ _ _ _ _ _ (by omega)]
    exact (quad2 v4 v6 x y _ _ _ _ _ _ _ _).trans (step4_congr (ld2 L c k A0 0 (by show _ + 0 < _; omega)) (ld2 L c k A1 0 (by show _ + 0 < _; omega))
      (ld2 L c k A0 1 (by show _ + 1 < _; omega)) (ld2 L c k A1 1 (by show _ + 1 < _; omega)) (ld2 L c k A0 2 (by show _ + 2 < _; omega))
      (ld2 L c k A1 2 (by show _ + 2 < _; omega)) (ld2 L c k A0 3 (by show _ + 3 < _; omega)) (ld2 L c k A1 3 (by show _ + 3 < _; omega)) hacc)
  isplitl [HE]; · iexact HE
  iexact HU

/-- One trip over the second pair of buffers. -/
theorem trip3 (c : Fin 16) (k : Fin k0_t3_loop.trips) (acc : FVec F S16 .f32 × FVec F S16 .f32) :
    inv3 d L A0 A1 v4 v6 c k.val acc ⊢ wp frame (wpE (defs₀ (F := F)) 𝒱₀ (thr d L) none) Set.univ (body3 L v4 v6 k acc) (inv3 d L A0 A1 v4 v6 c (k.val + 1)) := by
  have hk : k.val < 128 := t3_trips ▸ k.isLt
  have hc := c.isLt
  obtain ⟨x, y⟩ := acc
  unfold inv3 body3 k0_t3_body
  simp only [k0_part4_eq_skeleton, k0_part5_eq_skeleton, k0_part6_eq_skeleton]
  unfold k0_part4_skel k0_part5_skel k0_part6_skel
  simp only [Prog.lift, Prog.bind_op, Prog.bind_ret, Prog.pure_eq_ret]
  iintro ⟨%hacc, HE, HU⟩
  iapply (wp_load 𝒱₀ (thr d L) none Set.univ (m := bE1) (S := Finset.univ) (Finset.subset_univ _)) $$ HE; iintro HE
  iapply (wp_load 𝒱₀ (thr d L) none Set.univ (m := bU1) (S := Finset.univ) (Finset.subset_univ _)) $$ HU; iintro HU
  iapply (wp_load 𝒱₀ (thr d L) none Set.univ (m := bE1) (S := Finset.univ) (Finset.subset_univ _)) $$ HE; iintro HE
  iapply (wp_load 𝒱₀ (thr d L) none Set.univ (m := bU1) (S := Finset.univ) (Finset.subset_univ _)) $$ HU; iintro HU
  iapply (wp_load 𝒱₀ (thr d L) none Set.univ (m := bE1) (S := Finset.univ) (Finset.subset_univ _)) $$ HE; iintro HE
  iapply (wp_load 𝒱₀ (thr d L) none Set.univ (m := bU1) (S := Finset.univ) (Finset.subset_univ _)) $$ HU; iintro HU
  iapply (wp_load 𝒱₀ (thr d L) none Set.univ (m := bE1) (S := Finset.univ) (Finset.subset_univ _)) $$ HE; iintro HE
  iapply (wp_load 𝒱₀ (thr d L) none Set.univ (m := bU1) (S := Finset.univ) (Finset.subset_univ _)) $$ HU; iintro HU
  rw [wp_ret]; imodintro
  isplitr
  · ipureintro
    rw [show 512 * c.val + 4 * (k.val + 1) = (512 * c.val + 4 * k.val) + 4 by omega]
    unfold accL
    rw [accW_four _ _ _ _ _ _ (by omega)]
    exact (quad3 v4 v6 x y _ _ _ _ _ _ _ _).trans (step4_congr (ld3 L c k A0 0 (by show _ + 0 < _; omega)) (ld3 L c k A1 0 (by show _ + 0 < _; omega))
      (ld3 L c k A0 1 (by show _ + 1 < _; omega)) (ld3 L c k A1 1 (by show _ + 1 < _; omega)) (ld3 L c k A0 2 (by show _ + 2 < _; omega))
      (ld3 L c k A1 2 (by show _ + 2 < _; omega)) (ld3 L c k A0 3 (by show _ + 3 < _; omega)) (ld3 L c k A1 3 (by show _ + 3 < _; omega)) hacc)
  isplitl [HE]; · iexact HE
  iexact HU

end Cert.Proof

end
-- ==== Proof.Transfer.lean ====
/-
  The copies of a vector subcore's task: a fetch of one chunk, issued with the whole share of its array in hand, and what its wait hands back. A flight keeps
  the share of the array it does not read, so that the whole share comes back in one piece.
-/
module

public import proofs.«01_k».proof.Proof.Inner

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A transfer in flight on the DMA semaphore `sem` of `c`, of `N` units, whose wait delivers `R`. -/
abbrev Fl (c : Thread nD τ) (sem : DmaSem sig) (N : ℕ) (R : sProp 𝕄) : sProp 𝕄 :=
  Transfers.Flight (EC : UEmb Counters 𝕄) c (.dma sem) (none : HIx 1) N R

/-- What is set aside with a flight comes back with its delivery. -/
theorem fl_frame {c : Thread nD τ} {sem : DmaSem sig} {N : ℕ} {R X : sProp 𝕄} : iprop(Fl c sem N R ∗ X) ⊢ Fl (F := F) c sem N iprop(R ∗ X) := by
  unfold Fl Transfers.Flight
  iintro ⟨⟨⟨%Y, HY, %hcap, %hpeek⟩, Hcred⟩, HX⟩
  isplitl [HY HX]
  · iexists iprop(Y ∗ X)
    isplitl [HY HX]
    · isplitl [HY] <;> iassumption
    isplit
    · ipureintro
      intro Q
      refine BIBase.Entails.trans ?_ (hcap Q)
      iintro ⟨⟨HY, HX⟩, HQ⟩
      isplitl [HY]; · iexact HY
      iintro ⟨Hv, HR⟩
      iapply HQ
      isplitl [Hv]; · iexact Hv
      isplitl [HR] <;> iassumption
    · ipureintro
      intro Q
      refine BIBase.Entails.trans ?_ (hpeek Q)
      iintro ⟨⟨HY, HX⟩, HQ⟩
      isplitl [HY]; · iexact HY
      iintro HY
      iapply HQ
      isplitl [HY] <;> iassumption
  · iexact Hcred

theorem fl_mono {c : Thread nD τ} {sem : DmaSem sig} {N : ℕ} {R R' : sProp 𝕄} (h : R ⊢ R') : Fl c sem N R ⊢ Fl (F := F) c sem N R' :=
  Transfers.Flight_mono EC c h

variable [FloatOps F] (d : Dev nD) (L : grid0.Coords)

/-- The fetch of the 8192 elements at offset `o` of array `A` into buffer `B`: with `A` held at share `q`, `B` whole and the semaphore at zero, the copy is
    issued and its flight delivers `B` at what was read and `A` back. -/
theorem wp_fetch (A : Memref sig (thr d L).2.kind .hbm S16777216 .f32) (B : Memref sig (thr d L).2.kind .vmem S8192 .f32) (sem : DmaSem sig)
    (o : Fin 1 → ℕ) (ho : ∀ a, o a + S8192.size a ≤ S16777216.size a) (hN : 0 < B.view.dmaCredit) {q : PosShare TreeShare}
    {fA : Buf (Elt F) (A.view.loc (thr d L))} {fB new : Buf (Elt F) (B.view.loc (thr d L))}
    (hnew : B.view.write (Elt F) fB ((A.slice (Rect.unit (s := S16777216) o S8192.size ho) (fun _ => rfl)).view.read (Elt F) fA) Finset.univ = new)
    {hsrc : (A.slice (Rect.unit (s := S16777216) o S8192.size ho) (fun _ => rfl)).view.WordExact} {hdst : B.view.WordExact}
    {hsem : DmaTarget.Typed (nD := nD) Space.hbm (SemLoc.dma sem) (.here B)}
    {α : Type} {k : PUnit → Prog (TpuEff nD τ sig (Elt F) Λ₀ (thr d L).2) α} {Q : α → sProp 𝕄} :
    iprop((A.view.loc (thr d L) ↦{q} fA) ∗ (B.view.loc (thr d L) ↦{fullShare} fB) ∗ semVal (thr d L, SemLoc.dma sem) 0)
      ⊢ iprop((Fl (thr d L) sem B.view.dmaCredit iprop((B.view.loc (thr d L) ↦{fullShare} new) ∗ (A.view.loc (thr d L) ↦{q} fA))
              -∗ wp frame (wpE (defs₀ (F := F)) 𝒱₀ (thr d L) none) Set.univ (k ⟨⟩) Q)
          -∗ wp frame (wpE (defs₀ (F := F)) 𝒱₀ (thr d L) none) Set.univ
              (.op (.enqueueDma (A.slice (Rect.unit (s := S16777216) o S8192.size ho) (fun _ => rfl)) (.here B) (.dma sem) hsrc hdst hsem) k) Q) := by
  subst hnew
  iintro ⟨HA, HB, Hv⟩ Hk
  ihave HA' := (pointsTo_split_subset (q := q) (f := fA)
    (Finset.subset_univ (A.slice (Rect.unit (s := S16777216) o S8192.size ho) (fun _ => rfl)).view.set)).1 $$ HA
  icases HA' with ⟨HA, HAr⟩
  iapply (Transfers.wp_dmaLocal EC 𝒱₀ (thr d L) none (src := A.slice (Rect.unit (s := S16777216) o S8192.size ho) (fun _ => rfl)) (dst := B) (sm := .dma sem)
    none B.view.dmaCredit rfl hN (Finset.subset_univ _)) $$ [HA HB Hv]
  · isplitl [HA]; · iexact HA
    isplitl [HB]; · iexact HB
    iexact Hv
  iintro Hf
  iapply Hk
  ihave Hf' := (fl_frame (F := F) (c := thr d L) (sem := sem)) $$ [Hf HAr]
  · isplitl [Hf]; · iexact Hf
    iexact HAr
  iapply (fl_mono ?_) $$ Hf'
  iintro ⟨⟨HB, HA⟩, HAr⟩
  isplitl [HB]; · iexact HB
  iapply (pointsTo_split_subset (q := q) (f := fA)
    (Finset.subset_univ (A.slice (Rect.unit (s := S16777216) o S8192.size ho) (fun _ => rfl)).view.set)).2
  isplitl [HA]; · iexact HA
  iexact HAr

end Cert.Proof

end
-- ==== Proof.Outer.lean ====
/-
  The outer loop of a vector subcore's task: eight trips, each over two chunks of its slice. Before trip `t` the copies of chunk `2 t` are in flight into the
  first pair of buffers; the trip issues chunk `2 t + 1` into the second pair, runs over the first pair, issues chunk `2 t + 2` if there is one, and runs over
  the second pair.
-/
module

public import proofs.«01_k».proof.Proof.Transfer

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (A0 A1 : S16777216.Idx → F .f32) (v4 v6 : Vec F S16 .f32) (qa qb : PosShare TreeShare)
  (O : CellTallies nD τ sig (HIx 1)) (W : Waits sig (HIx 1))

abbrev body1 (v4 v6 : Vec F S16 .f32) := k0_t1_body (F := F) L eV (Memref.isWhole_whole _) uV (Memref.isWhole_whole _) etV (Memref.isWhole_whole _) utV (Memref.isWhole_whole _)
  qV (Memref.isWhole_whole _) dV (Memref.isWhole_whole _) bE0 (Memref.isWhole_whole _) bE1 (Memref.isWhole_whole _) bU0 (Memref.isWhole_whole _) bU1 (Memref.isWhole_whole _)
  bTe (Memref.isWhole_whole _) bTu (Memref.isWhole_whole _) bOut (Memref.isWhole_whole _) cc0_scratch7 cc0_scratch8 cc0_scratch9 cc0_scratch10 cc0_scoped0 cc0_scoped1 cc0_scoped2 cc0_scoped3 v4 v6

/-- The four semaphores of the chunk copies: first array even and odd chunks, second array even and odd chunks. -/
abbrev sE0 : DmaSem sig := cc0_scratch7.sem
abbrev sE1 : DmaSem sig := cc0_scratch8.sem
abbrev sU0 : DmaSem sig := cc0_scratch9.sem
abbrev sU1 : DmaSem sig := cc0_scratch10.sem

/-- The units of a chunk's copy. -/
abbrev NE0 : ℕ := bE0.view.dmaCredit
abbrev NE1 : ℕ := bE1.view.dmaCredit
abbrev NU0 : ℕ := bU0.view.dmaCredit
abbrev NU1 : ℕ := bU1.view.dmaCredit
theorem NE0_pos : 0 < NE0 := View.dmaCredit_pos _ (by decide)
theorem NE1_pos : 0 < NE1 := View.dmaCredit_pos _ (by decide)
theorem NU0_pos : 0 < NU0 := View.dmaCredit_pos _ (by decide)
theorem NU1_pos : 0 < NU1 := View.dmaCredit_pos _ (by decide)

/-- A semaphore of the subcore at zero. -/
abbrev z (s : DmaSem sig) : sProp 𝕄 := semVal (thr d L, SemLoc.dma s) 0
/-- What the subcore owes, all its waits so far those of before or on its own transfers. -/
abbrev ow : sProp 𝕄 := iprop(∃ W', ⌜∀ p ∈ W', p ∈ W ∨ p.2 = (none : HIx 1)⌝ ∗ owes (thr d L) O W')

/-- The even chunk before trip `t`: in flight if there is one, its resources at rest otherwise. -/
def evenP (t : ℕ) : sProp 𝕄 :=
  if h : 2 * t < 16 then
    iprop(Fl (thr d L) sE0 NE0 iprop((bE0.view.loc (thr d L) ↦{fullShare} chunk A0 (wL L) ⟨2 * t, h⟩) ∗ (eV.view.loc (thr d L) ↦{qa} A0))
      ∗ Fl (thr d L) sU0 NU0 iprop((bU0.view.loc (thr d L) ↦{fullShare} chunk A1 (wL L) ⟨2 * t, h⟩) ∗ (uV.view.loc (thr d L) ↦{qa} A1)))
  else
    iprop(((∃ f, bE0.view.loc (thr d L) ↦{fullShare} f) ∗ (eV.view.loc (thr d L) ↦{qa} A0) ∗ z d L sE0)
      ∗ ((∃ f, bU0.view.loc (thr d L) ↦{fullShare} f) ∗ (uV.view.loc (thr d L) ↦{qa} A1) ∗ z d L sU0))

/-- The second pair of buffers at rest. -/
def oddP : sProp 𝕄 :=
  iprop(((∃ f, bE1.view.loc (thr d L) ↦{fullShare} f) ∗ (eV.view.loc (thr d L) ↦{qb} A0) ∗ z d L sE1)
    ∗ ((∃ f, bU1.view.loc (thr d L) ↦{fullShare} f) ∗ (uV.view.loc (thr d L) ↦{qb} A1) ∗ z d L sU1))

/-- Before trip `t`: the accumulators are those after `1024 t` groups. -/
def inv1 (t : ℕ) (acc : FVec F S16 .f32 × FVec F S16 .f32) : sProp 𝕄 :=
  iprop(⌜acc = accL L A0 A1 v4 v6 (1024 * t)⌝ ∗ levAts (K (F := F)).L (K (F := F)).lev ∗ evenP d L A0 A1 qa t ∗ oddP d L A0 A1 qb ∗ ow d L O W)

/-- A fetched chunk, as the buffer it lands in holds it: one statement for each buffer. -/
theorem land_E0 (o : Fin 1 → ℕ) (ho : ∀ a, o a + S8192.size a ≤ S16777216.size a) (c : Fin 16) (e : o 0 = base (wL L) + 8192 * c.val) (f : S8192.Idx → F .f32) (A : S16777216.Idx → F .f32) :
    (bE0.view.write (Elt F) f ((eV.slice (Rect.unit (s := S16777216) o S8192.size ho) (fun _ => rfl)).view.read (Elt F) A) Finset.univ : S8192.Idx → F .f32) = chunk A (wL L) c :=
  (View.write_whole_univ _ _ _).trans (read_eV o ho A (wL L) c e)
theorem land_E1 (o : Fin 1 → ℕ) (ho : ∀ a, o a + S8192.size a ≤ S16777216.size a) (c : Fin 16) (e : o 0 = base (wL L) + 8192 * c.val) (f : S8192.Idx → F .f32) (A : S16777216.Idx → F .f32) :
    (bE1.view.write (Elt F) f ((eV.slice (Rect.unit (s := S16777216) o S8192.size ho) (fun _ => rfl)).view.read (Elt F) A) Finset.univ : S8192.Idx → F .f32) = chunk A (wL L) c :=
  (View.write_whole_univ _ _ _).trans (read_eV o ho A (wL L) c e)
theorem land_U0 (o : Fin 1 → ℕ) (ho : ∀ a, o a + S8192.size a ≤ S16777216.size a) (c : Fin 16) (e : o 0 = base (wL L) + 8192 * c.val) (f : S8192.Idx → F .f32) (A : S16777216.Idx → F .f32) :
    (bU0.view.write (Elt F) f ((uV.slice (Rect.unit (s := S16777216) o S8192.size ho) (fun _ => rfl)).view.read (Elt F) A) Finset.univ : S8192.Idx → F .f32) = chunk A (wL L) c :=
  (View.write_whole_univ _ _ _).trans (read_uV o ho A (wL L) c e)
theorem land_U1 (o : Fin 1 → ℕ) (ho : ∀ a, o a + S8192.size a ≤ S16777216.size a) (c : Fin 16) (e : o 0 = base (wL L) + 8192 * c.val) (f : S8192.Idx → F .f32) (A : S16777216.Idx → F .f32) :
    (bU1.view.write (Elt F) f ((uV.slice (Rect.unit (s := S16777216) o S8192.size ho) (fun _ => rfl)).view.read (Elt F) A) Finset.univ : S8192.Idx → F .f32) = chunk A (wL L) c :=
  (View.write_whole_univ _ _ _).trans (read_uV o ho A (wL L) c e)

theorem ow_insert {s : DmaSem sig} {W' : Waits sig (HIx 1)} (h : ∀ p ∈ W', p ∈ W ∨ p.2 = (none : HIx 1)) :
    ∀ p ∈ insert (SemLoc.dma s, (none : HIx 1)) W', p ∈ W ∨ p.2 = (none : HIx 1) := by
  intro p hp
  rcases Finset.mem_insert.mp hp with rfl | hp
  · exact .inr rfl
  · exact h p hp

/-- One trip of the outer loop. -/
theorem trip1 (hO : ∀ g, O g none = 0) (t : Fin k0_t1_loop.trips) (acc : FVec F S16 .f32 × FVec F S16 .f32) :
    inv1 d L A0 A1 v4 v6 qa qb O W t.val acc ⊢ wp frame (wpE (defs₀ (F := F)) 𝒱₀ (thr d L) none) Set.univ (body1 L v4 v6 t acc) (inv1 d L A0 A1 v4 v6 qa qb O W (t.val + 1)) := by
  have ht : t.val < 8 := t1_trips ▸ t.isLt
  have h2 : 2 * t.val < 16 := by omega
  have h21 : 2 * t.val + 1 < 16 := by omega
  obtain ⟨x, y⟩ := acc
  unfold inv1 body1 k0_t1_body oddP
  rw [show evenP d L A0 A1 qa t.val = _ from dif_pos h2]
  simp only [Prog.lift, Prog.bind_op, Prog.bind_ret, Prog.pure_eq_ret]
  iintro ⟨%hacc, #Hlv, ⟨HfE, HfU⟩, ⟨⟨⟨%fe, HbE⟩, HeA, HzE⟩, ⟨%fu, HbU⟩, HuA, HzU⟩, %W0, %hW0, HO⟩
  -- the odd chunk's copies start
  iapply (wp_fetch d L eV bE1 sE1 (k0_off2 L t) (k0_off2_inb L t) NE1_pos (new := chunk A0 (wL L) ⟨2 * t.val + 1, h21⟩) (land_E1 L _ _ _ (off2_at L t h21) fe A0)) $$ [HeA HbE HzE]
  · isplitl [HeA]; · iexact HeA
    isplitl [HbE]; · iexact HbE
    iexact HzE
  iintro HgE
  iapply (wp_fetch d L uV bU1 sU1 (k0_off2 L t) (k0_off2_inb L t) NU1_pos (new := chunk A1 (wL L) ⟨2 * t.val + 1, h21⟩) (land_U1 L _ _ _ (off2_at L t h21) fu A1)) $$ [HuA HbU HzU]
  · isplitl [HuA]; · iexact HuA
    isplitl [HbU]; · iexact HbU
    iexact HzU
  iintro HgU
  -- the even chunk lands
  iapply (Transfers.wp_waitLocalO EC 𝒱₀ (thr d L) none none (dstw := bE0) rfl (O := O) (W := W0)) $$ [HfE HO]
  · isplitl [HfE]; · iexact HfE
    isplitl [HO]; · iexact HO
    iapply ((K (F := F)).mayWait_none (SemLoc.dma sE0) hO); iexact Hlv
  iintro ⟨⟨HbE, HeA⟩, HzE, HO⟩
  iapply (Transfers.wp_waitLocalO EC 𝒱₀ (thr d L) none none (dstw := bU0) rfl (O := O) (W := insert (SemLoc.dma sE0, none) W0)) $$ [HfU HO]
  · isplitl [HfU]; · iexact HfU
    isplitl [HO]; · iexact HO
    iapply ((K (F := F)).mayWait_none (SemLoc.dma sU0) hO); iexact Hlv
  iintro ⟨⟨HbU, HuA⟩, HzU, HO⟩
  -- the run over it
  sl_for (inv2 d L A0 A1 v4 v6 ⟨2 * t.val, h2⟩) $$ [HbE HbU]
  · intro k acc
    exact trip2 d L A0 A1 v4 v6 ⟨2 * t.val, h2⟩ k acc
  · unfold inv2
    isplitr
    · ipureintro; rw [hacc]; congr 1; show 1024 * t.val = 512 * (2 * t.val) + 4 * 0; omega
    isplitl [HbE]; · iexact HbE
    iexact HbU
  iintro %acc1 Hinv
  obtain ⟨x1, y1⟩ := acc1
  unfold inv2
  icases Hinv with ⟨%hacc1, HbE, HbU⟩
  unfold trip1.sl.prog.cont_1
  -- the next even chunk's copies start, if there is one
  by_cases h1 : k0_cond1 t = 1#1
  on_goal 1 =>
    have h22 : 2 * t.val + 2 < 16 := (cond1_iff t).mp h1
    rw [dif_pos h1]
    iapply (wp_fetch d L eV bE0 sE0 (k0_off4 L t) (k0_off4_inb L t h1) NE0_pos (new := chunk A0 (wL L) ⟨2 * (t.val + 1), h22⟩) (land_E0 L _ _ _ (off4_at L t h22) _ A0)) $$ [HeA HbE HzE]
    · isplitl [HeA]; · iexact HeA
      isplitl [HbE]; · iexact HbE
      iexact HzE
    iintro HfE
    iapply (wp_fetch d L uV bU0 sU0 (k0_off4 L t) (k0_off4_inb L t h1) NU0_pos (new := chunk A1 (wL L) ⟨2 * (t.val + 1), h22⟩) (land_U0 L _ _ _ (off4_at L t h22) _ A1)) $$ [HuA HbU HzU]
    · isplitl [HuA]; · iexact HuA
      isplitl [HbU]; · iexact HbU
      iexact HzU
    iintro HfU
    ihave Hev : (evenP d L A0 A1 qa (t.val + 1)) $$ [HfE HfU]
    · rw [show evenP d L A0 A1 qa (t.val + 1) = _ from dif_pos h22]
      isplitl [HfE]; · iexact HfE
      iexact HfU
  on_goal 2 =>
    rw [dif_neg h1]
    ihave Hev : (evenP d L A0 A1 qa (t.val + 1)) $$ [HbE HeA HzE HbU HuA HzU]
    · rw [show evenP d L A0 A1 qa (t.val + 1) = _ from dif_neg (fun h => h1 ((cond1_iff t).mpr h))]
      isplitl [HbE HeA HzE]
      · isplitl [HbE]; · iexists _; iexact HbE
        isplitl [HeA]; · iexact HeA
        iexact HzE
      · isplitl [HbU]; · iexists _; iexact HbU
        isplitl [HuA]; · iexact HuA
        iexact HzU
  all_goals
    -- the odd chunk lands
    iapply (Transfers.wp_waitLocalO EC 𝒱₀ (thr d L) none none (dstw := bE1) rfl (O := O) (W := insert (SemLoc.dma sU0, none) (insert (SemLoc.dma sE0, none) W0))) $$ [HgE HO]
    · isplitl [HgE]; · iexact HgE
      isplitl [HO]; · iexact HO
      iapply ((K (F := F)).mayWait_none (SemLoc.dma sE1) hO); iexact Hlv
    iintro ⟨⟨HbE, HeA⟩, HzE, HO⟩
    iapply (Transfers.wp_waitLocalO EC 𝒱₀ (thr d L) none none (dstw := bU1) rfl (O := O) (W := insert (SemLoc.dma sE1, none) (insert (SemLoc.dma sU0, none) (insert (SemLoc.dma sE0, none) W0)))) $$ [HgU HO]
    · isplitl [HgU]; · iexact HgU
      isplitl [HO]; · iexact HO
      iapply ((K (F := F)).mayWait_none (SemLoc.dma sU1) hO); iexact Hlv
    iintro ⟨⟨HbU, HuA⟩, HzU, HO⟩
    sl_for (inv3 d L A0 A1 v4 v6 ⟨2 * t.val + 1, h21⟩) $$ [HbE HbU]
    · intro k acc
      exact trip3 d L A0 A1 v4 v6 ⟨2 * t.val + 1, h21⟩ k acc
    · unfold inv3
      isplitr
      · ipureintro; rw [hacc1, show Scf.trips k0_t2_loop.lb k0_t2_loop.ub k0_t2_loop.st = 128 from t2_trips]; exact congrArg (accL L A0 A1 v4 v6) (show 512 * (2 * t.val) + 4 * 128 = 512 * (2 * t.val + 1) + 4 * 0 by omega)
      isplitl [HbE]; · iexact HbE
      iexact HbU
    iintro %acc2 Hinv
    obtain ⟨x2, y2⟩ := acc2
    unfold inv3
    icases Hinv with ⟨%hacc2, HbE, HbU⟩
    first | unfold trip1.sl.prog.cont_2 | unfold trip1.sl.prog.cont_3
    simp only [Prog.pure_eq_ret]
    rw [wp_ret]
    imodintro
    isplitr
    · ipureintro; rw [hacc2, show Scf.trips k0_t3_loop.lb k0_t3_loop.ub k0_t3_loop.st = 128 from t3_trips]; congr 1; show 512 * (2 * t.val + 1) + 4 * 128 = 1024 * (t.val + 1); omega
    isplitr
    · iexact Hlv
    isplitl [Hev]; · iexact Hev
    isplitl [HbE HeA HzE HbU HuA HzU]
    · isplitl [HbE HeA HzE]
      · isplitl [HbE]; · iexists _; iexact HbE
        isplitl [HeA]; · iexact HeA
        iexact HzE
      · isplitl [HbU]; · iexists _; iexact HbU
        isplitl [HuA]; · iexact HuA
        iexact HzU
    iexists (insert (SemLoc.dma sU1, none) (insert (SemLoc.dma sE1, none) (insert (SemLoc.dma sU0, none) (insert (SemLoc.dma sE0, none) W0))))
    isplitr
    · ipureintro; exact ow_insert W (ow_insert W (ow_insert W (ow_insert W hW0)))
    · iexact HO

end Cert.Proof

end
-- ==== Proof.Rows.lean ====
/-
  The two rows of results a worker writes: the views of the copies, the elements they cover, and what a copy of sixteen lanes leaves there. And the subcore's
  own buffers and semaphores, one by one.
-/
module

public import proofs.«01_k».proof.Proof.Outer

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The rectangle of the worker's row. -/
abbrev rowR (L : grid0.Coords) : Rect S32x16 := Rect.unit (s := S32x16) (k0_off6 L) S1x16.size (k0_off6_inb L)
/-- The worker's row of the first and of the second result, as the copies name it. -/
abbrev qRow (L : grid0.Coords) : Memref sig .scVector .hbm S16 .f32 := (qV.slice (rowR L) (fun _ => rfl)).squeeze S16 squeezes_S1x16_S16
abbrev dRow (L : grid0.Coords) : Memref sig .scVector .hbm S16 .f32 := (dV.slice (rowR L) (fun _ => rfl)).squeeze S16 squeezes_S1x16_S16

omit [FloatOps F] in
theorem rowR_eq : rowR L = row (wL L) := by
  unfold rowR row Rect.part Rect.block
  congr 1 <;> funext a
  · rw [k0_off6_eq]
    match a with
    | 0 => simp [Shape.partIx, Shape.partSize]
    | 1 => simp [Shape.partIx, Shape.partSize]
  · match a with
    | 0 => simp [Shape.partSize]
    | 1 => simp [Shape.partSize]

omit [FloatOps F] in
theorem set_qRow : (qRow L).view.set = rowSet (wL L) := by
  show ((qV.view.slice (rowR L)).reshape S16 squeezes_S1x16_S16.numel_eq).set = _
  rw [View.set_reshape, View.set_slice_whole]
  exact congrArg (fun r : Rect S32x16 => r.set) (rowR_eq L)
omit [FloatOps F] in
theorem set_dRow : (dRow L).view.set = rowSet (wL L) := by
  show ((dV.view.slice (rowR L)).reshape S16 squeezes_S1x16_S16.numel_eq).set = _
  rw [View.set_reshape, View.set_slice_whole]
  exact congrArg (fun r : Rect S32x16 => r.set) (rowR_eq L)

omit [FloatOps F] in
/-- Lane `j` of the row is element `(w, j)`. -/
theorem rowR_emb (j : S16.Idx) : (rowR L).emb (Shape.reshapeEquiv squeezes_S1x16_S16.numel_eq j) = ix2 (n0 := 32) (n1 := 16) (wL L) (j 0) := by
  rw [show Shape.reshapeEquiv (s := S1x16) (s' := S16) squeezes_S1x16_S16.numel_eq j = Fin.cons ⟨0, Nat.one_pos⟩ j from Shape.reshapeEquiv_cons_one _ j]
  refine Rect.emb_eq_of_coords _ _ _ fun a => ?_
  match a with
  | 0 => simp [rowR, k0_off6_eq, wL, ix2]; rfl
  | 1 => simp [rowR, k0_off6_eq, ix2]; rfl

/-- What a copy of the lanes `g` leaves in the worker's row. -/
theorem qRow_write (g : S16.Idx → F .f32) (G f : S32x16.Idx → F .f32) (h : ∀ j, g j = G (ix2 (n0 := 32) (n1 := 16) (wL L) (j 0))) :
    ∀ i ∈ rowSet (wL L), ((qRow L).view.write (Elt F) f g Finset.univ : S32x16.Idx → F .f32) i = G i := by
  intro i hi
  rw [← set_qRow] at hi
  obtain ⟨x, -, rfl⟩ := Finset.mem_map.mp hi
  rw [View.write_emb_of_mem _ _ (Finset.mem_univ _)]
  exact (h x).trans (congrArg G (rowR_emb L x).symm)
theorem dRow_write (g : S16.Idx → F .f32) (G f : S32x16.Idx → F .f32) (h : ∀ j, g j = G (ix2 (n0 := 32) (n1 := 16) (wL L) (j 0))) :
    ∀ i ∈ rowSet (wL L), ((dRow L).view.write (Elt F) f g Finset.univ : S32x16.Idx → F .f32) i = G i := by
  intro i hi
  rw [← set_dRow] at hi
  obtain ⟨x, -, rfl⟩ := Finset.mem_map.mp hi
  rw [View.write_emb_of_mem _ _ (Finset.mem_univ _)]
  exact (h x).trans (congrArg G (rowR_emb L x).symm)

/-- A copy and its wait: the destination's elements at `new`, which is what was read, the source back, the semaphore at zero again and one wait more. -/
theorem wp_copyWait {O : CellTallies nD τ sig (HIx 1)} {sp sp' : Space} {s : Shape} (hO : ∀ g, O g none = 0) (W : Waits sig (HIx 1))
    (A : Memref sig (thr d L).2.kind sp s .f32) (B : Memref sig (thr d L).2.kind sp' s .f32) (sem : DmaSem sig)
    (hN : 0 < B.view.dmaCredit) {q : PosShare TreeShare}
    {fA : Buf (Elt F) (A.view.loc (thr d L))} {fB : Buf (Elt F) (B.view.loc (thr d L))} {SA : Finset (Idx (A.view.loc (thr d L)))} {SB : Finset (Idx (B.view.loc (thr d L)))}
    (hA : A.view.set = SA) (hB : B.view.set = SB) {new : Buf (Elt F) (B.view.loc (thr d L))}
    (hnew : ∀ i ∈ SB, B.view.write (Elt F) fB (A.view.read (Elt F) fA) Finset.univ i = new i)
    {hsrc : A.view.WordExact} {hdst : B.view.WordExact} {hsem : DmaTarget.Typed (nD := nD) sp (SemLoc.dma sem) (.here B)} {hsrc' : A.view.WordExact} {hdst' : B.view.WordExact}
    {α : Type} {k : PUnit → Prog (TpuEff nD τ sig (Elt F) Λ₀ (thr d L).2) α} {Q : α → sProp 𝕄} :
    iprop(levAts (K (F := F)).L (K (F := F)).lev ∗ (A.view.loc (thr d L) ↦[SA]{q} fA) ∗ (B.view.loc (thr d L) ↦[SB]{fullShare} fB)
        ∗ semVal (thr d L, SemLoc.dma sem) 0 ∗ owes (thr d L) O W)
      ⊢ iprop((((B.view.loc (thr d L) ↦[SB]{fullShare} new) ∗ (A.view.loc (thr d L) ↦[SA]{q} fA)
              ∗ semVal (thr d L, SemLoc.dma sem) 0 ∗ owes (thr d L) O (insert (SemLoc.dma sem, none) W))
              -∗ wp frame (wpE (defs₀ (F := F)) 𝒱₀ (thr d L) none) Set.univ (k ⟨⟩) Q)
          -∗ wp frame (wpE (defs₀ (F := F)) 𝒱₀ (thr d L) none) Set.univ
              (.op (.enqueueDma A (.here B) (.dma sem) hsrc hdst hsem) fun _ => .op (.waitDma2 sem A B hsrc' hdst') k) Q) := by
  subst hA hB
  iintro ⟨#Hlv, HA, HB, Hv, HO⟩ Hk
  iapply (Transfers.wp_dmaLocal EC 𝒱₀ (thr d L) none (src := A) (dst := B) (sm := .dma sem) none B.view.dmaCredit rfl hN (Finset.Subset.refl _)) $$ [HA HB Hv]
  · isplitl [HA]; · iexact HA
    isplitl [HB]; · iexact HB
    iexact Hv
  iintro Hf
  iapply (Transfers.wp_waitLocalO EC 𝒱₀ (thr d L) none none (dstw := B) rfl (O := O) (W := W)) $$ [Hf HO]
  · isplitl [Hf]; · iexact Hf
    isplitl [HO]; · iexact HO
    iapply ((K (F := F)).mayWait_none (SemLoc.dma sem) hO); iexact Hlv
  iintro ⟨⟨HB, HA⟩, Hv, HO⟩
  iapply Hk
  isplitl [HB]
  · iapply (Entails.of_eq (pointsTo_congr hnew)) $$ HB
  isplitl [HA]; · iexact HA
  isplitl [Hv]; · iexact Hv
  iexact HO

end Cert.Proof

end
-- ==== Proof.Own.lean ====
/-
  A vector subcore's own semaphores and buffers, taken out one by one from the bundles that its task is handed.
-/
module

public import proofs.«01_k».proof.Proof.Rows

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-- The subcore's eight semaphores of copies are among its own: they are them, at zero, and the rest. -/
theorem ownSems0_V :
    (ownSems0 (thr d L) : sProp 𝕄)
      = iprop(semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
          ∗ bigSep (((((((((ownCells (thr d L)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0) := by
  unfold SparseCore.Cfg.ownSems0
  rw [SparseCore.bigSep_erase' ((mem_ownCells (g := (thr d L, SemLoc.dma cc0_scratch7.sem))).mpr ⟨rfl, by show (SemLoc.dma cc0_scratch7.sem : SemLoc sig).isScoped .scVector = true; decide⟩),
    SparseCore.bigSep_erase' (Finset.mem_erase.mpr ⟨fun e => absurd (congrArg Prod.snd e) (show (SemLoc.dma cc0_scratch8.sem : SemLoc sig) ≠ SemLoc.dma cc0_scratch7.sem by decide), (mem_ownCells (g := (thr d L, SemLoc.dma cc0_scratch8.sem))).mpr ⟨rfl, by show (SemLoc.dma cc0_scratch8.sem : SemLoc sig).isScoped .scVector = true; decide⟩⟩),
    SparseCore.bigSep_erase' (Finset.mem_erase.mpr ⟨fun e => absurd (congrArg Prod.snd e) (show (SemLoc.dma cc0_scratch9.sem : SemLoc sig) ≠ SemLoc.dma cc0_scratch8.sem by decide), Finset.mem_erase.mpr ⟨fun e => absurd (congrArg Prod.snd e) (show (SemLoc.dma cc0_scratch9.sem : SemLoc sig) ≠ SemLoc.dma cc0_scratch7.sem by decide), (mem_ownCells (g := (thr d L, SemLoc.dma cc0_scratch9.sem))).mpr ⟨rfl, by show (SemLoc.dma cc0_scratch9.sem : SemLoc sig).isScoped .scVector = true; decide⟩⟩⟩),
    SparseCore.bigSep_erase' (Finset.mem_erase.mpr ⟨fun e => absurd (congrArg Prod.snd e) (show (SemLoc.dma cc0_scratch10.sem : SemLoc sig) ≠ SemLoc.dma cc0_scratch9.sem by decide), Finset.mem_erase.mpr ⟨fun e => absurd (congrArg Prod.snd e) (show (SemLoc.dma cc0_scratch10.sem : SemLoc sig) ≠ SemLoc.dma cc0_scratch8.sem by decide), Finset.mem_erase.mpr ⟨fun e => absurd (congrArg Prod.snd e) (show (SemLoc.dma cc0_scratch10.sem : SemLoc sig) ≠ SemLoc.dma cc0_scratch7.sem by decide), (mem_ownCells (g := (thr d L, SemLoc.dma cc0_scratch10.sem))).mpr ⟨rfl, by show (SemLoc.dma cc0_scratch10.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), Finset.mem_erase.mpr ⟨fun e => absurd (congrArg Prod.snd e) (show (SemLoc.dma cc0_scoped0.sem : SemLoc sig) ≠ SemLoc.dma cc0_scratch8.sem by decide), Finset.mem_erase.mpr ⟨fun e => absurd (congrArg Prod.snd e) (show (SemLoc.dma cc0_scoped0.sem : SemLoc sig) ≠ SemLoc.dma cc0_scratch7.sem by decide), (mem_ownCells (g := (thr d L, SemLoc.dma cc0_scoped0.sem))).mpr ⟨rfl, by show (SemLoc.dma cc0_scoped0.sem : SemLoc sig).isScoped .scVector = true; decide⟩⟩⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch10.sem by decide), Finset.mem_erase.mpr ⟨fun e => absurd (congrArg Prod.snd e) (show (SemLoc.dma cc0_scoped1.sem : SemLoc sig) ≠ SemLoc.dma cc0_scratch9.sem by decide), Finset.mem_erase.mpr ⟨fun e => absurd (congrArg Prod.snd e) (show (SemLoc.dma cc0_scoped1.sem : SemLoc sig) ≠ SemLoc.dma cc0_scratch8.sem by decide), Finset.mem_erase.mpr ⟨fun e => absurd (congrArg Prod.snd e) (show (SemLoc.dma cc0_scoped1.sem : SemLoc sig) ≠ SemLoc.dma cc0_scratch7.sem by decide), (mem_ownCells (g := (thr d L, SemLoc.dma cc0_scoped1.sem))).mpr ⟨rfl, by show (SemLoc.dma cc0_scoped1.sem : SemLoc sig).isScoped .scVector = true; decide⟩⟩⟩⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch10.sem by decide), Finset.mem_erase.mpr ⟨fun e => absurd (congrArg Prod.snd e) (show (SemLoc.dma cc0_scoped2.sem : SemLoc sig) ≠ SemLoc.dma cc0_scratch9.sem by decide), Finset.mem_erase.mpr ⟨fun e => absurd (congrArg Prod.snd e) (show (SemLoc.dma cc0_scoped2.sem : SemLoc sig) ≠ SemLoc.dma cc0_scratch8.sem by decide), Finset.mem_erase.mpr ⟨fun e => absurd (congrArg Prod.snd e) (show (SemLoc.dma cc0_scoped2.sem : SemLoc sig) ≠ SemLoc.dma cc0_scratch7.sem by decide), (mem_ownCells (g := (thr d L, SemLoc.dma cc0_scoped2.sem))).mpr ⟨rfl, by show (SemLoc.dma cc0_scoped2.sem : SemLoc sig).isScoped .scVector = true; decide⟩⟩⟩⟩⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), Finset.mem_erase.mpr ⟨fun e => absurd (congrArg Prod.snd e) (show (SemLoc.dma cc0_scoped3.sem : SemLoc sig) ≠ SemLoc.dma cc0_scratch10.sem by decide), Finset.mem_erase.mpr ⟨fun e => absurd (congrArg Prod.snd e) (show (SemLoc.dma cc0_scoped3.sem : SemLoc sig) ≠ SemLoc.dma cc0_scratch9.sem by decide), Finset.mem_erase.mpr ⟨fun e => absurd (congrArg Prod.snd e) (show (SemLoc.dma cc0_scoped3.sem : SemLoc sig) ≠ SemLoc.dma cc0_scratch8.sem by decide), Finset.mem_erase.mpr ⟨fun e => absurd (congrArg Prod.snd e) (show (SemLoc.dma cc0_scoped3.sem : SemLoc sig) ≠ SemLoc.dma cc0_scratch7.sem by decide), (mem_ownCells (g := (thr d L, SemLoc.dma cc0_scoped3.sem))).mpr ⟨rfl, by show (SemLoc.dma cc0_scoped3.sem : SemLoc sig).isScoped .scVector = true; decide⟩⟩⟩⟩⟩⟩⟩⟩)]

/-- The seven scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := ((Proc.scVector (cV L) (jV L)).devRef cc0_scratch6)) rfl⟩⟩⟩⟩⟩⟩)]

end Cert.Proof

end
-- ==== Proof.Tile.lean ====
/-
  A vector subcore's task, from its operands to its results: the thresholds copied in, the first chunks issued, the outer loop, and the two accumulators copied
  to the worker's rows.
-/
module

public import proofs.«01_k».proof.Proof.Own
public import Idealize.ShloMosaic.Lib.Pointwise.Reshape

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

variable (m : (ℓ : Loc nD τ sig) → Buf (Elt F) ℓ)

abbrev cL (L : grid0.Coords) : Fin 2 := L 0
abbrev iL (L : grid0.Coords) : Fin 16 := L 1
abbrev qL (L : grid0.Coords) : PosShare TreeShare := tokq (cL L) (iL L)

abbrev rS : Rect S16 := Rect.unit (s := S16) ![0] S16.size inb_S16_S16_0

omit [FloatOps F] in
theorem rS_idx (j : S16.Idx) : rS.toLoadRect.idx j = j := by
  funext a; apply Fin.ext
  rw [LoadRect.idx_apply, Subsingleton.elim a 0]
  show 0 + 1 * (j 0).val = (j 0).val
  simp
omit [FloatOps F] in
theorem rS_emb (j : S16.Idx) : rS.emb j = j := rS_idx j

omit [FloatOps F] in
/-- A load of all sixteen lanes reads the buffer; a store of all sixteen leaves what is stored. -/
theorem load_bTe (f : S16.Idx → F .f32) : (bTe.view.readAt (Elt F) rS.toLoadRect f : S16.Idx → F .f32) = f := by
  funext j; rw [View.readAt_apply]; show f (rS.toLoadRect.idx j) = f j; rw [rS_idx]
omit [FloatOps F] in
theorem load_bTu (f : S16.Idx → F .f32) : (bTu.view.readAt (Elt F) rS.toLoadRect f : S16.Idx → F .f32) = f := by
  funext j; rw [View.readAt_apply]; show f (rS.toLoadRect.idx j) = f j; rw [rS_idx]
omit [FloatOps F] in
theorem store_bOut (f w : S16.Idx → F .f32) : ((bOut.access rS).write (Elt F) f w Finset.univ : S16.Idx → F .f32) = w := by
  funext j
  have h := View.write_emb_of_mem (v := bOut.access rS) (Val := Elt F) f w (Finset.mem_univ j)
  rw [show (bOut.access rS).emb j = j from rS_emb j] at h
  exact h

/-- The accumulators when the outer loop is done. -/
abbrev accEnd : FVec F S16 .f32 × FVec F S16 .f32 := accL L (errA m d) (uncA m d) (ethB m d) (uthB m d) 8192

/-- The lanes the two copies out read are those of the accumulators. -/
theorem pay48_at (j : S16.Idx) : (k0_pay48 (accEnd d L m).1 : S16.Idx → F .f32) j = resQ m d (ix2 (n0 := 32) (n1 := 16) (wL L) (j 0)) := by
  show shapeCast S16 (accEnd d L m).1 _ j = (accEnd d L m).1 (ix1 (n0 := 16) (j 0))
  rw [shapeCast_id, ix1_eta]
theorem pay49_at (j : S16.Idx) : (k0_pay49 (accEnd d L m).2 : S16.Idx → F .f32) j = resD m d (ix2 (n0 := 32) (n1 := 16) (wL L) (j 0)) := by
  show shapeCast S16 (accEnd d L m).2 _ j = (accEnd d L m).2 (ix1 (n0 := 16) (j 0))
  rw [shapeCast_id, ix1_eta]

set_option maxHeartbeats 1000000 in
/-- A worker's task. -/
theorem tile_body (hF : (K (F := F)).Facts) (O : CellTallies nD τ sig (HIx 1)) (W : Waits sig (HIx 1)) (hO : ∀ g, O g none = 0) :
    iprop(levAts (K (F := F)).L (K (F := F)).lev ∗ emp ∗ goR m d (cL L) (iL L)
        ∗ scopedBufs (thr d L) ∗ scopedSems0 (thr d L) ∗ owes (thr d L) O W)
      ⊢ wp frame (wpE (defs₀ (F := F)) 𝒱₀ (thr d L) none) Set.univ
          (cc0__sc_body L eV (Memref.isWhole_whole _) uV (Memref.isWhole_whole _) etV (Memref.isWhole_whole _) utV (Memref.isWhole_whole _)
            qV (Memref.isWhole_whole _) dV (Memref.isWhole_whole _) bE0 (Memref.isWhole_whole _) bE1 (Memref.isWhole_whole _) bU0 (Memref.isWhole_whole _) bU1 (Memref.isWhole_whole _)
            bTe (Memref.isWhole_whole _) bTu (Memref.isWhole_whole _) bOut (Memref.isWhole_whole _) cc0_scratch7 cc0_scratch8 cc0_scratch9 cc0_scratch10 cc0_scoped0 cc0_scoped1 cc0_scoped2 cc0_scoped3)
          fun _ => iprop(tdR m d (cL L) (iL L) ∗ scopedBufs (thr d L) ∗ scopedSems0 (thr d L)
            ∗ ∃ W', ⌜∀ p ∈ W', p ∈ W ∨ p.2 = (none : HIx 1)⌝ ∗ owes (thr d L) O W') := by
  simp only [cc0__sc_body_eq_skeleton]; unfold cc0__sc_body_skel
  simp only [k0_part7_eq_skeleton]; unfold k0_part7_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨⟨He, Hu, Het, Hut⟩, Hq, Hd⟩, ⟨⟨%f0, H0⟩, ⟨%f1, H1⟩, ⟨%f2, H2⟩, ⟨%f3, H3⟩, ⟨%f4, H4⟩, ⟨%f5, H5⟩, ⟨%f6, H6⟩, Hbufs⟩,
    ⟨Hs0, Hs1, Hs2, Hs3, Hs4, Hs5, Hs6, Hs7, Hsems⟩, HO⟩
  -- the thresholds
  iapply (wp_copyWait d L hO W etV bTe cc0_scoped0.sem (View.dmaCredit_pos _ (by decide)) (q := qL L) (fA := ethB m d) (SA := Finset.univ) (fB := f4) (SB := Finset.univ)
    (View.set_whole _) (View.set_whole _) (new := ethB m d) (fun i _ => congrFun (View.write_whole_univ _ _ _) i)) $$ [Het H4 Hs4 HO]
  · isplitr; · iexact Hlv
    isplitl [Het]; · iexact Het
    isplitl [H4]; · iexact H4
    isplitl [Hs4]; · iexact Hs4
    iexact HO
  iintro ⟨H4, Het, Hs4, HO⟩
  iapply (wp_copyWait d L hO (insert (SemLoc.dma cc0_scoped0.sem, none) W) utV bTu cc0_scoped1.sem (View.dmaCredit_pos _ (by decide)) (q := qL L) (fA := uthB m d) (SA := Finset.univ) (fB := f5) (SB := Finset.univ)
    (View.set_whole _) (View.set_whole _) (new := uthB m d) (fun i _ => congrFun (View.write_whole_univ _ _ _) i)) $$ [Hut H5 Hs5 HO]
  · isplitr; · iexact Hlv
    isplitl [Hut]; · iexact Hut
    isplitl [H5]; · iexact H5
    isplitl [Hs5]; · iexact Hs5
    iexact HO
  iintro ⟨H5, Hut, Hs5, HO⟩
  iapply (wp_load 𝒱₀ (thr d L) none Set.univ (m := bTe) (S := Finset.univ) (Finset.subset_univ _)) $$ H4; iintro H4
  iapply (wp_load 𝒱₀ (thr d L) none Set.univ (m := bTu) (S := Finset.univ) (Finset.subset_univ _)) $$ H5; iintro H5
  rw [show bTe.view.readAt (Elt F) rS.toLoadRect (ethB m d) = ethB m d from load_bTe _, show bTu.view.readAt (Elt F) rS.toLoadRect (uthB m d) = uthB m d from load_bTu _]
  -- each array's share in two, one for the even chunks and one for the odd
  ihave He2 := (pointsTo_share (PosShare.mem_left_op_right (qL L))).1 $$ He
  icases He2 with ⟨Hea, Heb⟩
  ihave Hu2 := (pointsTo_share (PosShare.mem_left_op_right (qL L))).1 $$ Hu
  icases Hu2 with ⟨Hua, Hub⟩
  -- the first chunk's copies start
  iapply (wp_fetch d L eV bE0 sE0 (k0_off1 L) (k0_off1_inb L) NE0_pos (new := chunk (errA m d) (wL L) ⟨0, by omega⟩) (land_E0 L _ _ _ (off1_at L) f0 (errA m d))) $$ [Hea H0 Hs0]
  · isplitl [Hea]; · iexact Hea
    isplitl [H0]; · iexact H0
    iexact Hs0
  iintro HfE
  iapply (wp_fetch d L uV bU0 sU0 (k0_off1 L) (k0_off1_inb L) NU0_pos (new := chunk (uncA m d) (wL L) ⟨0, by omega⟩) (land_U0 L _ _ _ (off1_at L) f2 (uncA m d))) $$ [Hua H2 Hs2]
  · isplitl [Hua]; · iexact Hua
    isplitl [H2]; · iexact H2
    iexact Hs2
  iintro HfU
  -- the loop
  sl_for (inv1 d L (errA m d) (uncA m d) (ethB m d) (uthB m d) (qL L).left (qL L).right O W) $$ [HfE HfU Heb Hub H1 H3 Hs1 Hs3 HO]
  · intro k acc
    exact trip1 d L (errA m d) (uncA m d) (ethB m d) (uthB m d) (qL L).left (qL L).right O W hO k acc
  · unfold inv1 oddP
    rw [show evenP d L (errA m d) (uncA m d) (qL L).left 0 = _ from dif_pos (show 2 * 0 < 16 by decide)]
    isplitr
    · ipureintro; rfl
    isplitr; · iexact Hlv
    isplitl [HfE HfU]
    · isplitl [HfE]; · iexact HfE
      iexact HfU
    isplitl [Heb Hub H1 H3 Hs1 Hs3]
    · isplitl [Heb H1 Hs1]
      · isplitl [H1]; · iexists _; iexact H1
        isplitl [Heb]; · iexact Heb
        iexact Hs1
      · isplitl [H3]; · iexists _; iexact H3
        isplitl [Hub]; · iexact Hub
        iexact Hs3
    iexists (insert (SemLoc.dma cc0_scoped1.sem, none) (insert (SemLoc.dma cc0_scoped0.sem, none) W))
    isplitr
    · ipureintro; exact ow_insert W (ow_insert W fun p hp => .inl hp)
    · iexact HO
  iintro %acc Hinv
  obtain ⟨x, y⟩ := acc
  unfold inv1 oddP
  rw [show Scf.trips k0_t1_loop.lb k0_t1_loop.ub k0_t1_loop.st = 8 from t1_trips,
    show evenP d L (errA m d) (uncA m d) (qL L).left 8 = _ from dif_neg (show ¬ 2 * 8 < 16 by decide)]
  icases Hinv with ⟨%hacc, -, ⟨⟨⟨%f0', H0⟩, Hea, Hs0⟩, ⟨%f2', H2⟩, Hua, Hs2⟩, ⟨⟨⟨%f1', H1⟩, Heb, Hs1⟩, ⟨%f3', H3⟩, Hub, Hs3⟩, %W1, %hW1, HO⟩
  obtain ⟨rfl, rfl⟩ := Prod.mk.inj hacc
  ihave He := (pointsTo_share (PosShare.mem_left_op_right (qL L))).2 $$ [Hea Heb]
  · isplitl [Hea]; · iexact Hea
    iexact Heb
  ihave Hu := (pointsTo_share (PosShare.mem_left_op_right (qL L))).2 $$ [Hua Hub]
  · isplitl [Hua]; · iexact Hua
    iexact Hub
  unfold tile_body.sl.prog.cont_1
  simp only [Prog.pure_eq_ret, Prog.bind_ret, Prog.bind_op]
  -- the first accumulator leaves
  iapply (wp_load 𝒱₀ (thr d L) none Set.univ (m := bOut) (S := Finset.univ) (Finset.subset_univ _)) $$ H6; iintro H6
  iapply (wp_store 𝒱₀ (thr d L) none Set.univ (m := bOut) (r := rS) (Mk := Finset.univ) (S := Finset.univ) (Finset.subset_univ _)) $$ H6; iintro H6
  rw [store_bOut]
  iapply (wp_copyWait d L hO W1 bOut (qRow L) cc0_scoped2.sem (View.dmaCredit_pos _ (by decide)) (q := fullShare) (fA := k0_pay48 (accEnd d L m).1) (SA := Finset.univ)
    (fB := m (qLoc d)) (SB := rowSet (wL L)) (View.set_whole _) (set_qRow L) (new := resQ m d) (qRow_write L _ _ _ (pay48_at d L m))) $$ [H6 Hq Hs6 HO]
  · isplitr; · iexact Hlv
    isplitl [H6]; · iexact H6
    isplitl [Hq]; · iexact Hq
    isplitl [Hs6]; · iexact Hs6
    iexact HO
  iintro ⟨Hq, H6, Hs6, HO⟩
  -- and the second
  iapply (wp_load 𝒱₀ (thr d L) none Set.univ (m := bOut) (S := Finset.univ) (Finset.subset_univ _)) $$ H6; iintro H6
  iapply (wp_store 𝒱₀ (thr d L) none Set.univ (m := bOut) (r := rS) (Mk := Finset.univ) (S := Finset.univ) (Finset.subset_univ _)) $$ H6; iintro H6
  rw [store_bOut]
  iapply (wp_copyWait d L hO (insert (SemLoc.dma cc0_scoped2.sem, none) W1) bOut (dRow L) cc0_scoped3.sem (View.dmaCredit_pos _ (by decide)) (q := fullShare) (fA := k0_pay49 (accEnd d L m).2) (SA := Finset.univ)
    (fB := m (dLoc d)) (SB := rowSet (wL L)) (View.set_whole _) (set_dRow L) (new := resD m d) (dRow_write L _ _ _ (pay49_at d L m))) $$ [H6 Hd Hs7 HO]
  · isplitr; · iexact Hlv
    isplitl [H6]; · iexact H6
    isplitl [Hd]; · iexact Hd
    isplitl [Hs7]; · iexact Hs7
    iexact HO
  iintro ⟨Hd, H6, Hs7, HO⟩
  rw [wp_ret]; imodintro
  isplitl [He Hu Het Hut Hq Hd]
  · isplitl [He Hu Het Hut]
    · isplitl [He]; · iexact He
      isplitl [Hu]; · iexact Hu
      isplitl [Het]; · iexact Het
      iexact Hut
    isplitl [Hq]; · iexact Hq
    iexact Hd
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists (insert (SemLoc.dma cc0_scoped3.sem, none) (insert (SemLoc.dma cc0_scoped2.sem, none) W1))
  isplitr
  · ipureintro; exact ow_insert W (ow_insert W hW1)
  · iexact HO

end Cert.Proof

end
-- ==== Proof.Obl.lean ====
/-
  The SparseCore call's obligations: every vector subcore's task meets what the launch asks of it, and a SparseCore's operands are those of its sixteen tasks.
-/
module

public import proofs.«01_k».proof.Proof.Tile

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
            eV (Memref.isWhole_whole _) uV (Memref.isWhole_whole _) etV (Memref.isWhole_whole _) utV (Memref.isWhole_whole _)
            qV (Memref.isWhole_whole _) dV (Memref.isWhole_whole _) bE0 (Memref.isWhole_whole _) bE1 (Memref.isWhole_whole _) bU0 (Memref.isWhole_whole _) bU1 (Memref.isWhole_whole _)
            bTe (Memref.isWhole_whole _) bTu (Memref.isWhole_whole _) bOut (Memref.isWhole_whole _) cc0_scratch7 cc0_scratch8 cc0_scratch9 cc0_scratch10 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each subcore runs its task. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The operands of a SparseCore's call split over its subcores, and their results join. -/
theorem vecSplit : (K (F := F)).VecSplit' (P m) 0 := by
  intro d c
  show (bigSep Finset.univ fun i : Fin 16 => goR m d (Fin.cast nCore_zero c) i) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ bigSep Finset.univ fun i : Fin 16 => tdR m d (Fin.cast nCore_zero c) i))
  rw [bigSep_tasks (F := F) (fun i => goR m d (Fin.cast nCore_zero c) i), bigSep_tasks (F := F) (fun i => tdR m d (Fin.cast nCore_zero c) i)]
  iintro H; imodintro
  isplitl [H]; · iexact H
  iintro H; iexact H

end Cert.Proof

end
-- ==== Proof.Deal.lean ====
/-
  The arrays of the SparseCore call dealt to its vector subcores, a share of each array read and a row of each result.
-/
module

public import proofs.«01_k».proof.Proof.Common

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

omit [FloatOps F] in
/-- What stays behind of an array that every vector subcore reads. -/
abbrev restR (ℓ : Loc nD τ sig) (f : Buf (Elt F) ℓ) : sProp 𝕄 :=
  iprop((ℓ ↦{Transfers.shareDrop fullShare 2} f) ∗ bigSep Finset.univ fun c : Fin 2 => (ℓ ↦{Transfers.shareDrop (Transfers.shareTok fullShare 2 c) 16} f))

omit [FloatOps F] in
/-- An array every vector subcore reads, dealt into the subcores' shares and what stays behind. -/
theorem share_eq (ℓ : Loc nD τ sig) (f : Buf (Elt F) ℓ) :
    (ℓ ↦{fullShare} f : sProp 𝕄) = iprop((bigSep Finset.univ fun c : Fin 2 => bigSep Finset.univ fun i : Fin 16 => (ℓ ↦{tokq c i} f)) ∗ restR ℓ f) := by
  have h1 : (ℓ ↦{fullShare} f : sProp 𝕄) = iprop((ℓ ↦{Transfers.shareDrop fullShare 2} f) ∗ bigSep Finset.univ fun c : Fin 2 => (ℓ ↦{Transfers.shareTok fullShare 2 c} f)) :=
    BI.Entails.antisymm (Transfers.pointsTo_toks fullShare 2).1 (Transfers.pointsTo_toks fullShare 2).2
  have h2 : ∀ c : Fin 2, (ℓ ↦{Transfers.shareTok fullShare 2 c} f : sProp 𝕄)
      = iprop((ℓ ↦{Transfers.shareDrop (Transfers.shareTok fullShare 2 c) 16} f) ∗ bigSep Finset.univ fun i : Fin 16 => (ℓ ↦{tokq c i} f)) := fun c =>
    BI.Entails.antisymm (Transfers.pointsTo_toks _ 16).1 (Transfers.pointsTo_toks _ 16).2
  rw [h1, bigSep_congr (fun c _ => h2 c), bigSep_sep']
  refine BI.Entails.antisymm ?_ ?_
  · show (_ : sProp 𝕄) ⊢ _
    iintro ⟨HA, HB, HC⟩
    isplitl [HC]; · iexact HC
    isplitl [HA]; · iexact HA
    iexact HB
  · show (_ : sProp 𝕄) ⊢ _
    iintro ⟨HC, HA, HB⟩
    isplitl [HA]; · iexact HA
    isplitl [HB]; · iexact HB
    iexact HC

/-- Workers are numbered by their core and subcore. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
/-- A result of the SparseCore call is its thirty-two rows. -/
theorem rows_q (d : Dev nD) (f : Buf (Elt F) (qLoc d)) :
    (qLoc d ↦{fullShare} f : sProp 𝕄) = bigSep Finset.univ fun c : Fin 2 => bigSep Finset.univ fun i : Fin 16 => (qLoc d ↦[rowSet (wid c i)]{fullShare} f) := by
  have h : (qLoc d ↦{fullShare} f : sProp 𝕄) = bigSep Finset.univ fun w : Fin 32 => (qLoc d ↦[rowSet w]{fullShare} f) := by
    rw [← Rect.biUnion_part hdiv]
    exact pointsTo_biUnion _ _ fun j _ j' _ hj => Rect.part_disjoint hdiv hj
  rw [h, bigSep_univ_equiv widEquiv, bigSep_univ_prod]; rfl

omit [FloatOps F] in
theorem rows_d (d : Dev nD) (f : Buf (Elt F) (dLoc d)) :
    (dLoc d ↦{fullShare} f : sProp 𝕄) = bigSep Finset.univ fun c : Fin 2 => bigSep Finset.univ fun i : Fin 16 => (dLoc d ↦[rowSet (wid c i)]{fullShare} f) := by
  have h : (dLoc d ↦{fullShare} f : sProp 𝕄) = bigSep Finset.univ fun w : Fin 32 => (dLoc d ↦[rowSet w]{fullShare} f) := by
    rw [← Rect.biUnion_part hdiv]
    exact pointsTo_biUnion _ _ fun j _ j' _ hj => Rect.part_disjoint hdiv hj
  rw [h, bigSep_univ_equiv widEquiv, bigSep_univ_prod]; rfl

variable (m : (ℓ : Loc nD τ sig) → Buf (Elt F) ℓ)

omit [FloatOps F] in
/-- The four arrays read and the two results, dealt: a share of each array and a row of each result for every subcore. -/
theorem deal_eq (d : Dev nD) (e : Buf (Elt F) (eLoc d)) (u : Buf (Elt F) (uLoc d)) (a : Buf (Elt F) (etLoc d)) (b : Buf (Elt F) (utLoc d))
    (f : Buf (Elt F) (qLoc d)) (g : Buf (Elt F) (dLoc d)) :
    (iprop((eLoc d ↦{fullShare} e) ∗ (uLoc d ↦{fullShare} u) ∗ (etLoc d ↦{fullShare} a) ∗ (utLoc d ↦{fullShare} b) ∗ (qLoc d ↦{fullShare} f) ∗ (dLoc d ↦{fullShare} g)) : sProp 𝕄)
      = iprop((bigSep Finset.univ fun c : Fin 2 => bigSep Finset.univ fun i : Fin 16 =>
            iprop(iprop((eLoc d ↦{tokq c i} e) ∗ (uLoc d ↦{tokq c i} u) ∗ (etLoc d ↦{tokq c i} a) ∗ (utLoc d ↦{tokq c i} b))
              ∗ (qLoc d ↦[rowSet (wid c i)]{fullShare} f) ∗ (dLoc d ↦[rowSet (wid c i)]{fullShare} g)))
          ∗ (restR (eLoc d) e ∗ restR (uLoc d) u ∗ restR (etLoc d) a ∗ restR (utLoc d) b)) := by
  rw [share_eq (eLoc d), share_eq (uLoc d), share_eq (etLoc d), share_eq (utLoc d), rows_q, rows_d]
  simp only [bigSep_sep']
  refine BI.Entails.antisymm ?_ ?_
  · show (_ : sProp 𝕄) ⊢ _
    iintro ⟨⟨H1, R1⟩, ⟨H2, R2⟩, ⟨H3, R3⟩, ⟨H4, R4⟩, H5, H6⟩
    isplitl [H1 H2 H3 H4 H5 H6]
    · isplitl [H1 H2 H3 H4]
      · isplitl [H1]; · iexact H1
        isplitl [H2]; · iexact H2
        isplitl [H3]; · iexact H3
        iexact H4
      isplitl [H5]; · iexact H5
      iexact H6
    isplitl [R1]; · iexact R1
    isplitl [R2]; · iexact R2
    isplitl [R3]; · iexact R3
    iexact R4
  · show (_ : sProp 𝕄) ⊢ _
    iintro ⟨⟨⟨H1, H2, H3, H4⟩, H5, H6⟩, R1, R2, R3, R4⟩
    isplitl [H1 R1]; · isplitl [H1]; (· iexact H1); iexact R1
    isplitl [H2 R2]; · isplitl [H2]; (· iexact H2); iexact R2
    isplitl [H3 R3]; · isplitl [H3]; (· iexact H3); iexact R3
    isplitl [H4 R4]; · isplitl [H4]; (· iexact H4); iexact R4
    isplitl [H5]; · iexact H5
    iexact H6

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The call's operands on device `d` are every subcore's. -/
theorem st_eq (d : Dev nD) : (bigSep Finset.univ fun c : Fin ((K (F := F)).nCore 0) => (P m).st 0 d c)
    = bigSep Finset.univ fun c : Fin 2 => bigSep Finset.univ fun i : Fin 16 => goR m d c i :=
  bigSep_cores (F := F) fun c => bigSep Finset.univ fun i : Fin 16 => goR m d c i
theorem dn_eq (d : Dev nD) : (bigSep Finset.univ fun c : Fin ((K (F := F)).nCore 0) => (P m).dn 0 d c)
    = bigSep Finset.univ fun c : Fin 2 => bigSep Finset.univ fun i : Fin 16 => tdR m d c i :=
  bigSep_cores (F := F) fun c => bigSep Finset.univ fun i : Fin 16 => tdR m d c i

end Cert.Proof

end
-- ==== Proof.TcBody.lean ====
/-
  The TensorCore kernel's body at one grid point: what it leaves in the two accumulators' buffers, at the first block and at a later one.
-/
module

public import proofs.«01_k».proof.Proof.Common
public import Idealize.ShloMosaic.Lib.VecWindow

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Whole accesses of a memref held at what it reads -/

section Access

variable {s : Shape} {e : EltTy} {cs : CoreSpace} {α : Type} (c : Dev nD) (M : Memref sig .tc cs s e)
  {off : Fin s.rank → ℕ} (inb : ∀ a, off a + s.size a ≤ s.size a)

omit [FloatOps F] in
/-- What a memref reads through the rectangle of its own sizes is what it reads. -/
theorem read_all (f : M.view.ty.Contents (Elt F)) :
    ((M.access (Rect.unit off s.size inb)).read (Elt F) f : s.Idx → Elt F e) = M.view.read (Elt F) f := by
  funext z
  show _root_.cast _ (f (M.view.emb ((Rect.unit off s.size inb).emb z))) = _root_.cast _ (f (M.view.emb z))
  rw [Rect.emb_unit_full inb z]

omit [FloatOps F] in
/-- A store of all of it leaves what is stored. -/
theorem read_store_all (f : M.view.ty.Contents (Elt F)) (w : s.Idx → Elt F e) :
    M.view.read (Elt F) ((M.access (Rect.unit off s.size inb)).write (Elt F) f w Finset.univ) = w :=
  (read_all M inb _).symm.trans (View.read_write_univ _ _)

/-- A load of all of a memref held at `X` answers `X`. -/
theorem wp_loadAll {X : s.Idx → Elt F e} {hl : M.view.LoadsAt (Rect.unit off s.size inb).toLoadRect}
    {k : (s.Idx → Elt F e) → Prog (TpuEff nD τ sig (Elt F) Λ₀ .tc) α} {Q : α → sProp 𝕄} :
    (owns (c.tc : Thread nD τ) M fullShare X : sProp 𝕄)
      ⊢ iprop((owns (c.tc : Thread nD τ) M fullShare X -∗ wp frame (wpE (defs₀ (F := F)) 𝒱₀ (c.tc : Thread nD τ) none) Set.univ (k X) Q)
        -∗ wp frame (wpE (defs₀ (F := F)) 𝒱₀ (c.tc : Thread nD τ) none) Set.univ (.op (.load M (Rect.unit off s.size inb).toLoadRect hl) k) Q) := by
  unfold owns
  iintro ⟨%f, %hf, H⟩ Hk
  iapply (wp_load_rect 𝒱₀ (c.tc : Thread nD τ) none Set.univ (m := M) (r := Rect.unit off s.size inb) (S := M.view.set)
    (View.set_slice_subset _ _)) $$ H
  iintro H
  rw [show (M.access (Rect.unit off s.size inb)).read (Elt F) f = X from (read_all M inb f).trans hf]
  iapply Hk
  iexists f; isplitr; · ipureintro; exact hf
  iexact H

/-- A store of all of a memref leaves it at what is stored. -/
theorem wp_storeAll {X w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} :
    (owns (c.tc : Thread nD τ) M fullShare X : sProp 𝕄)
      ⊢ iprop((owns (c.tc : Thread nD τ) M fullShare w -∗ wp frame (wpE (defs₀ (F := F)) 𝒱₀ (c.tc : Thread nD τ) none) Set.univ (k ⟨⟩) Q)
        -∗ wp frame (wpE (defs₀ (F := F)) 𝒱₀ (c.tc : Thread nD τ) none) Set.univ
          (.op (.store M (Rect.unit off s.size inb) w Finset.univ hx hm) k) Q) := by
  unfold owns
  iintro ⟨%f, %hf, H⟩ Hk
  iapply (wp_store 𝒱₀ (c.tc : Thread nD τ) none Set.univ (m := M) (r := Rect.unit off s.size inb) (w := w) (Mk := Finset.univ) (S := M.view.set)
    (View.set_slice_subset _ _)) $$ H
  iintro H
  iapply Hk
  iexists _; isplitr; swap; · iexact H
  ipureintro; exact read_store_all M inb f w

end Access

/-- The word of a one-element memref in scalar memory, held at `X`. -/
theorem wp_word {α : Type} (c : Dev nD) (M : Memref sig .tc .smem S1 .f32) {off : Fin 1 → ℕ} (inb : ∀ a, off a + S1.size a ≤ S1.size a)
    (h1 : (Rect.unit (s := S1) off S1.size inb).shape.numel = 1) (hp : (EltTy.packing .f32) = 1) {X : S1.Idx → Elt F .f32}
    {k : Elt F .f32 → Prog (TpuEff nD τ sig (Elt F) Λ₀ .tc) α} {Q : α → sProp 𝕄} :
    (owns (c.tc : Thread nD τ) M fullShare X : sProp 𝕄)
      ⊢ iprop((owns (c.tc : Thread nD τ) M fullShare X -∗ wp frame (wpE (defs₀ (F := F)) 𝒱₀ (c.tc : Thread nD τ) none) Set.univ (k (X (ix1 0))) Q)
        -∗ wp frame (wpE (defs₀ (F := F)) 𝒱₀ (c.tc : Thread nD τ) none) Set.univ
          ((smemLoad M (Rect.unit (s := S1) off S1.size inb) h1 hp : Prog (TpuEff nD τ sig (Elt F) Λ₀ .tc) (Elt F .f32)) >>= k) Q) := by
  iintro H Hk
  unfold smemLoad smemLoadElt
  simp only [Prog.bind_op, Prog.bind_ret]
  iapply (wp_loadAll c M inb) $$ H
  iintro H
  rw [show X (Shape.Idx.first (h1.symm ▸ Nat.one_pos)) = X (ix1 0) from congrArg X (funext fun a => by
      obtain rfl : a = 0 := Subsingleton.elim a 0
      exact Subsingleton.elim (α := Fin 1) _ _)]
  iapply Hk; iexact H

/-! ## The TensorCore kernel's body at one grid point -/

section Body

variable (c : Dev nD) (i : grid1.Coords) (M1 : Memref sig .tc .smem S1 .f32) (h1 : M1.IsWhole) (M2 : Memref sig .tc .smem S1 .f32) (h2 : M2.IsWhole)
  (M3 : Memref sig .tc .vmem S8192x128 .f32) (h3 : M3.IsWhole) (M4 : Memref sig .tc .vmem S8192x128 .f32) (h4 : M4.IsWhole)
  (M5 : Memref sig .tc .vmem S1x128 .f32) (h5 : M5.IsWhole) (M6 : Memref sig .tc .vmem S1x128 .f32) (h6 : M6.IsWhole)

/-- The first block: both accumulators are set to the block's sums. -/
theorem body_first (hc1 : k1_cond1 i = 1#1) (hc2 : ¬ k1_cond2 i = 1#1) (T1 T2 : S1.Idx → Elt F .f32) (E U : S8192x128.Idx → Elt F .f32)
    (X5 X6 : S1x128.Idx → Elt F .f32) (Q : PUnit → sProp 𝕄) :
    iprop(owns (c.tc : Thread nD τ) M1 fullShare T1 ∗ owns (c.tc : Thread nD τ) M2 fullShare T2 ∗ owns (c.tc : Thread nD τ) M3 fullShare E
        ∗ owns (c.tc : Thread nD τ) M4 fullShare U ∗ owns (c.tc : Thread nD τ) M5 fullShare X5 ∗ owns (c.tc : Thread nD τ) M6 fullShare X6
        ∗ (iprop(owns (c.tc : Thread nD τ) M1 fullShare T1 ∗ owns (c.tc : Thread nD τ) M2 fullShare T2 ∗ owns (c.tc : Thread nD τ) M3 fullShare E
          ∗ owns (c.tc : Thread nD τ) M4 fullShare U ∗ owns (c.tc : Thread nD τ) M5 fullShare (k1_pay7 E U (T1 (ix1 0)) (T2 (ix1 0)))
          ∗ owns (c.tc : Thread nD τ) M6 fullShare (k1_pay6 E U (T1 (ix1 0)) (T2 (ix1 0)))) -∗ Q ⟨⟩))
      ⊢ wp frame (wpE (defs₀ (F := F)) 𝒱₀ (c.tc : Thread nD τ) none) Set.univ (cc1__tc_body i M1 h1 M2 h2 M3 h3 M4 h4 M5 h5 M6 h6) Q := by
  rw [cc1__tc_body_eq_skeleton]
  unfold cc1__tc_body_skel
  simp only [Prog.lift, Prog.bind_op, Prog.bind_ret, Prog.pure_eq_ret, dif_pos hc1, dif_neg hc2]
  iintro ⟨H1, H2, H3, H4, H5, H6, Hk⟩
  iapply (wp_loadAll c M3 _) $$ H3; iintro H3
  iapply (wp_loadAll c M4 _) $$ H4; iintro H4
  iapply (wp_word c M1 _ _ _) $$ H1; iintro H1
  iapply (wp_word c M2 _ _ _) $$ H2; iintro H2
  iapply (wp_loadAll c M5 _) $$ H5; iintro H5
  iapply (wp_storeAll c M5 _) $$ H5; iintro H5
  iapply (wp_loadAll c M6 _) $$ H6; iintro H6
  iapply (wp_storeAll c M6 _) $$ H6; iintro H6
  rw [wp_ret]; imodintro
  iapply Hk
  isplitl [H1]; · iexact H1
  isplitl [H2]; · iexact H2
  isplitl [H3]; · iexact H3
  isplitl [H4]; · iexact H4
  isplitl [H5]; · iexact H5
  iexact H6

/-- A later block: the block's sums are added to the accumulators. -/
theorem body_later (hc1 : ¬ k1_cond1 i = 1#1) (hc2 : k1_cond2 i = 1#1) (T1 T2 : S1.Idx → Elt F .f32) (E U : S8192x128.Idx → Elt F .f32)
    (X5 X6 : S1x128.Idx → Elt F .f32) (Q : PUnit → sProp 𝕄) :
    iprop(owns (c.tc : Thread nD τ) M1 fullShare T1 ∗ owns (c.tc : Thread nD τ) M2 fullShare T2 ∗ owns (c.tc : Thread nD τ) M3 fullShare E
        ∗ owns (c.tc : Thread nD τ) M4 fullShare U ∗ owns (c.tc : Thread nD τ) M5 fullShare X5 ∗ owns (c.tc : Thread nD τ) M6 fullShare X6
        ∗ (iprop(owns (c.tc : Thread nD τ) M1 fullShare T1 ∗ owns (c.tc : Thread nD τ) M2 fullShare T2 ∗ owns (c.tc : Thread nD τ) M3 fullShare E
          ∗ owns (c.tc : Thread nD τ) M4 fullShare U ∗ owns (c.tc : Thread nD τ) M5 fullShare (k1_pay8 E U (T1 (ix1 0)) (T2 (ix1 0)) X5)
          ∗ owns (c.tc : Thread nD τ) M6 fullShare (k1_pay9 E U (T1 (ix1 0)) (T2 (ix1 0)) X6)) -∗ Q ⟨⟩))
      ⊢ wp frame (wpE (defs₀ (F := F)) 𝒱₀ (c.tc : Thread nD τ) none) Set.univ (cc1__tc_body i M1 h1 M2 h2 M3 h3 M4 h4 M5 h5 M6 h6) Q := by
  rw [cc1__tc_body_eq_skeleton]
  unfold cc1__tc_body_skel
  simp only [Prog.lift, Prog.bind_op, Prog.bind_ret, Prog.pure_eq_ret, dif_neg hc1, dif_pos hc2]
  iintro ⟨H1, H2, H3, H4, H5, H6, Hk⟩
  iapply (wp_loadAll c M3 _) $$ H3; iintro H3
  iapply (wp_loadAll c M4 _) $$ H4; iintro H4
  iapply (wp_word c M1 _ _ _) $$ H1; iintro H1
  iapply (wp_word c M2 _ _ _) $$ H2; iintro H2
  iapply (wp_loadAll c M5 _) $$ H5; iintro H5
  iapply (wp_loadAll c M5 _) $$ H5; iintro H5
  iapply (wp_storeAll c M5 _) $$ H5; iintro H5
  iapply (wp_loadAll c M6 _) $$ H6; iintro H6
  iapply (wp_loadAll c M6 _) $$ H6; iintro H6
  iapply (wp_storeAll c M6 _) $$ H6; iintro H6
  rw [wp_ret]; imodintro
  iapply Hk
  isplitl [H1]; · iexact H1
  isplitl [H2]; · iexact H2
  isplitl [H3]; · iexact H3
  isplitl [H4]; · iexact H4
  isplitl [H5]; · iexact H5
  iexact H6

end Body

end Cert.Proof

end
-- ==== Proof.Region.lean ====
/-
  The TensorCore call: its blocks, its running sums, its proof data, and that its body meets what the pipeline asks at every point.
-/
module

public import proofs.«01_k».proof.Proof.TcBody
public import Idealize.ShloMosaic.Lib.Pipeline.Frame
public import Idealize.ShloMosaic.Lib.Pipeline.FrameBody
public import Idealize.ShloMosaic.Lib.Pipeline.Value
public import Idealize.ShloMosaic.Lib.Pipeline.ValueKit.Geometry

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig (HIx 1) (Elt F) ℕ UU ℕ

/-! ## The values of the TensorCore call -/

/-- Block `t` of an array of 131072 rows: 8192 rows. -/
def blkAt (A : S131072x128.Idx → F .f32) (t : Fin 12) : S8192x128.Idx → F .f32 :=
  fun x => A (ix2 (n0 := 131072) (n1 := 128) ⟨8192 * t.val + (x 0).val, by
    have h1 := t.isLt; have h2 : (x 0).val < 8192 := (x 0).isLt; omega⟩ (x 1))

/-- The numerator's 128 running sums after the blocks up to `n`. -/
def tcNum (A3 A4 : S131072x128.Idx → F .f32) (a b : F .f32) : ℕ → FVec F S1x128 .f32
  | 0 => k1_pay7 (blkAt A3 0) (blkAt A4 0) a b
  | n + 1 => if h : n + 1 < 12 then k1_pay8 (blkAt A3 ⟨n + 1, h⟩) (blkAt A4 ⟨n + 1, h⟩) a b (tcNum A3 A4 a b n) else tcNum A3 A4 a b n

/-- The denominator's. -/
def tcDen (A3 A4 : S131072x128.Idx → F .f32) (a b : F .f32) : ℕ → FVec F S1x128 .f32
  | 0 => k1_pay6 (blkAt A3 0) (blkAt A4 0) a b
  | n + 1 => if h : n + 1 < 12 then k1_pay9 (blkAt A3 ⟨n + 1, h⟩) (blkAt A4 ⟨n + 1, h⟩) a b (tcDen A3 A4 a b n) else tcDen A3 A4 a b n

theorem tcNum_succ (A3 A4 : S131072x128.Idx → F .f32) (a b : F .f32) (n : ℕ) (h : n + 1 < 12) :
    tcNum A3 A4 a b (n + 1) = k1_pay8 (blkAt A3 ⟨n + 1, h⟩) (blkAt A4 ⟨n + 1, h⟩) a b (tcNum A3 A4 a b n) := dif_pos h
theorem tcDen_succ (A3 A4 : S131072x128.Idx → F .f32) (a b : F .f32) (n : ℕ) (h : n + 1 < 12) :
    tcDen A3 A4 a b (n + 1) = k1_pay9 (blkAt A3 ⟨n + 1, h⟩) (blkAt A4 ⟨n + 1, h⟩) a b (tcDen A3 A4 a b n) := dif_pos h

/-! ## The grid's points -/

theorem lt12 (t : Fin cfg1.N) : t.val < 12 := Nat.lt_of_lt_of_eq t.isLt N_1

theorem coords1 (t : Fin cfg1.N) : (grid1.coords t 0).val = t.val := by
  have h := Pipeline.Grid.coords_val (G := grid1) t 0 (S := 1) (B := 12) (by decide) rfl
  have := lt12 t
  rw [h]; omega

theorem condLast_iff (i : grid1.Coords) : k1_cond1 i = 1#1 ↔ (i 0).val = 0 := by
  have h : (i 0).val < 12 := (i 0).isLt
  unfold k1_cond1
  generalize (i 0).val = n at h
  revert n; decide

theorem condNext_iff (i : grid1.Coords) : k1_cond2 i = 1#1 ↔ (i 0).val ≠ 0 := by
  have h : (i 0).val < 12 := (i 0).isLt
  unfold k1_cond2
  generalize (i 0).val = n at h
  revert n; decide

/-- At every point the body stores into both accumulators. -/
theorem live45 (i : grid1.Coords) : (!(k1_cond1 i == 1#1) && !(k1_cond2 i == 1#1)) = false := by
  by_cases h : (i 0).val = 0
  · rw [(condLast_iff i).mpr h]; rfl
  · rw [(condNext_iff i).mpr h]; simp

/-! ## The proof data -/

section Data

variable (W : Dev nD → Valuation τ sig (Elt F))

/-- The arrays the call finds. -/
abbrev arr3 (c : Dev nD) : S131072x128.Idx → F .f32 := W c (Proc.devRef .tc main_v3)
abbrev arr4 (c : Dev nD) : S131072x128.Idx → F .f32 := W c (Proc.devRef .tc main_v4)
abbrev arrE (c : Dev nD) : S1.Idx → F .f32 := W c (Proc.devRef .tc main_arg2)
abbrev arrU (c : Dev nD) : S1.Idx → F .f32 := W c (Proc.devRef .tc main_arg3)

/-- The two accumulators after point `n`. -/
abbrev numAt (c : Dev nD) (n : ℕ) : S1x128.Idx → F .f32 := tcNum (arr3 W c) (arr4 W c) (arrE W c (ix1 0)) (arrU W c (ix1 0)) n
abbrev denAt (c : Dev nD) (n : ℕ) : S1x128.Idx → F .f32 := tcDen (arr3 W c) (arr4 W c) (arrE W c (ix1 0)) (arrU W c (ix1 0)) n

/-- The proof data on device `c`: the arrays as found; after the body the inputs as fetched, the accumulators at their
    running sums; nothing owed; every
    recorded wait at a level no later than the SparseCore call's; full shares. -/
def dats (_ : Fin 1) (c : Dev nD) : Pipeline.Dat τ (Elt F) (HIx 1) ℕ UU ℕ cfg1 c where
  A w := W c (Proc.devRef .tc (Pipeline.arrRef spec1 w))
  after w t := match w with
    | ⟨0, _⟩ => arrE W c
    | ⟨1, _⟩ => arrU W c
    | ⟨2, _⟩ => blkAt (arr3 W c) ⟨t.val, lt12 t⟩
    | ⟨3, _⟩ => blkAt (arr4 W c) ⟨t.val, lt12 t⟩
    | ⟨4, _⟩ => numAt W c t.val
    | ⟨5, _⟩ => denAt W c t.val
  Φ _ := iprop(emp)
  q _ := fullShare
  owed _ := 0
  recorded _ := {p | (K (F := F)).lev (SparseCore.T c, p.1) p.2 ≤ 8}

theorem idx_v3 (t : Fin cfg1.N) (x : S8192x128.Idx) : ((cfg1.win 2).blk t).view.emb x = ix2 (n0 := 131072) (n1 := 128) ⟨8192 * t.val + (x 0).val, by
    have h1 := lt12 t; have h2 : (x 0).val < 8192 := (x 0).isLt; omega⟩ (x 1) := by
  have hc : (grid1.coords t 0).val = t.val := coords1 t
  have h1 := lt12 t
  have h0 := Pipeline.Window.rect_emb_val (cfg1.win 2) t x 0
  have h1' := Pipeline.Window.rect_emb_val (cfg1.win 2) t x 1
  have e0 : (cfg1.win 2).index t 0 = t.val := by
    show (BitVec.ofNat 32 (grid1.coords t 0).val).toNat = t.val
    rw [hc, BitVec.toNat_ofNat]; omega
  have e1 : (cfg1.win 2).index t 1 = 0 := rfl
  funext a
  apply Fin.ext
  match a with
  | 0 =>
    refine h0.trans ?_; rw [e0]; show t.val * 8192 + (x 0).val = 8192 * t.val + (x 0).val; omega
  | 1 => refine h1'.trans ?_; rw [e1]; show 0 * 128 + (x 1).val = (x 1).val; omega

theorem idx_v4 (t : Fin cfg1.N) (x : S8192x128.Idx) : ((cfg1.win 3).blk t).view.emb x = ix2 (n0 := 131072) (n1 := 128) ⟨8192 * t.val + (x 0).val, by
    have h1 := lt12 t; have h2 : (x 0).val < 8192 := (x 0).isLt; omega⟩ (x 1) := by
  have hc : (grid1.coords t 0).val = t.val := coords1 t
  have h1 := lt12 t
  have h0 := Pipeline.Window.rect_emb_val (cfg1.win 3) t x 0
  have h1' := Pipeline.Window.rect_emb_val (cfg1.win 3) t x 1
  have e0 : (cfg1.win 3).index t 0 = t.val := by
    show (BitVec.ofNat 32 (grid1.coords t 0).val).toNat = t.val
    rw [hc, BitVec.toNat_ofNat]; omega
  have e1 : (cfg1.win 3).index t 1 = 0 := rfl
  funext a
  apply Fin.ext
  match a with
  | 0 =>
    refine h0.trans ?_; rw [e0]; show t.val * 8192 + (x 0).val = 8192 * t.val + (x 0).val; omega
  | 1 => refine h1'.trans ?_; rw [e1]; show 0 * 128 + (x 1).val = (x 1).val; omega

theorem blockOf_0 (c : Dev nD) (t : Fin cfg1.N) : (dats W 0 c).blockOf 0 t = arrE W c := by
  funext x
  show arrE W c (((cfg1.win 0).blk t).view.emb x) = arrE W c x
  refine congrArg (arrE W c) (funext fun a => ?_)
  obtain rfl : a = 0 := Subsingleton.elim (α := Fin 1) a 0
  exact Subsingleton.elim (α := Fin 1) _ _
theorem blockOf_1 (c : Dev nD) (t : Fin cfg1.N) : (dats W 0 c).blockOf 1 t = arrU W c := by
  funext x
  show arrU W c (((cfg1.win 1).blk t).view.emb x) = arrU W c x
  refine congrArg (arrU W c) (funext fun a => ?_)
  obtain rfl : a = 0 := Subsingleton.elim (α := Fin 1) a 0
  exact Subsingleton.elim (α := Fin 1) _ _
theorem blockOf_2 (c : Dev nD) (t : Fin cfg1.N) : (dats W 0 c).blockOf 2 t = blkAt (arr3 W c) ⟨t.val, lt12 t⟩ := by
  funext x
  show arr3 W c (((cfg1.win 2).blk t).view.emb x) = _
  rw [idx_v3]; rfl
theorem blockOf_3 (c : Dev nD) (t : Fin cfg1.N) : (dats W 0 c).blockOf 3 t = blkAt (arr4 W c) ⟨t.val, lt12 t⟩ := by
  funext x
  show arr4 W c (((cfg1.win 3).blk t).view.emb x) = _
  rw [idx_v4]; rfl

/-- What the body finds in an input's buffer: the block fetched there. -/
theorem before_0 (c : Dev nD) (t : Fin cfg1.N) (d) : (dats W 0 c).before 0 t d = arrE W c :=
  ((dats W 0 c).before_in_eq_fetched 0 rfl (fun _ => rfl) (fun _ _ _ => rfl) (fun t => (blockOf_0 W c t).symm) t d).trans (blockOf_0 W c t)
theorem before_1 (c : Dev nD) (t : Fin cfg1.N) (d) : (dats W 0 c).before 1 t d = arrU W c :=
  ((dats W 0 c).before_in_eq_fetched 1 rfl (fun _ => rfl) (fun _ _ _ => rfl) (fun t => (blockOf_1 W c t).symm) t d).trans (blockOf_1 W c t)
theorem before_2 (c : Dev nD) (t : Fin cfg1.N) (d) : (dats W 0 c).before 2 t d = blkAt (arr3 W c) ⟨t.val, lt12 t⟩ :=
  ((dats W 0 c).before_in_eq_fetched 2 rfl (fun _ => rfl) (fun _ _ _ => rfl) (fun t => (blockOf_2 W c t).symm) t d).trans (blockOf_2 W c t)
theorem before_3 (c : Dev nD) (t : Fin cfg1.N) (d) : (dats W 0 c).before 3 t d = blkAt (arr4 W c) ⟨t.val, lt12 t⟩ :=
  ((dats W 0 c).before_in_eq_fetched 3 rfl (fun _ => rfl) (fun _ _ _ => rfl) (fun t => (blockOf_3 W c t).symm) t d).trans (blockOf_3 W c t)

/-- What it finds in an accumulator's buffer after the first point: the running sums of the point before. -/
theorem before_4 (c : Dev nD) (t : Fin cfg1.N) (ht : t.val ≠ 0) (d) : (dats W 0 c).before 4 t d = numAt W c (t.val - 1) :=
  (dats W 0 c).before_out_kept 4 rfl t ht (by
    rw [Bool.eq_false_iff]; intro h; have h1 := (flush1_4 _).mp h; have := lt12 t; dsimp only at h1; omega) live45 (fun _ _ => rfl) d
theorem before_5 (c : Dev nD) (t : Fin cfg1.N) (ht : t.val ≠ 0) (d) : (dats W 0 c).before 5 t d = denAt W c (t.val - 1) :=
  (dats W 0 c).before_out_kept 5 rfl t ht (by
    rw [Bool.eq_false_iff]; intro h; have h1 := (flush1_5 _).mp h; have := lt12 t; dsimp only at h1; omega) live45 (fun _ _ => rfl) d

end Data

end Cert.Proof

end
-- ==== Proof.RegionBody.lean ====
/-
  At every point of its grid, the TensorCore call's body leaves what the proof data state.
-/
module

public import proofs.«01_k».proof.Proof.Region

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig (HIx 1) (Elt F) ℕ UU ℕ

/-- The pipelines' parameter: none has any. -/
abbrev adm : (p : Fin 1) → (pcfgs (F := F) p).Adm := fun p => (cfgs p).toPCfg_adm

section Seg

variable (W : Dev nD → Valuation τ sig (Elt F))

theorem st_first (c : Dev nD) (t : Fin cfg1.N) (h : t.val = 0) :
    numAt W c t.val = k1_pay7 (blkAt (arr3 W c) ⟨t.val, lt12 t⟩) (blkAt (arr4 W c) ⟨t.val, lt12 t⟩) (arrE W c (ix1 0)) (arrU W c (ix1 0))
    ∧ denAt W c t.val = k1_pay6 (blkAt (arr3 W c) ⟨t.val, lt12 t⟩) (blkAt (arr4 W c) ⟨t.val, lt12 t⟩) (arrE W c (ix1 0)) (arrU W c (ix1 0)) := by
  have e : (⟨t.val, lt12 t⟩ : Fin 12) = 0 := Fin.ext h
  rw [e, h]; exact ⟨rfl, rfl⟩

theorem st_later (c : Dev nD) (t : Fin cfg1.N) (h : t.val ≠ 0) :
    numAt W c t.val = k1_pay8 (blkAt (arr3 W c) ⟨t.val, lt12 t⟩) (blkAt (arr4 W c) ⟨t.val, lt12 t⟩) (arrE W c (ix1 0)) (arrU W c (ix1 0)) (numAt W c (t.val - 1))
    ∧ denAt W c t.val = k1_pay9 (blkAt (arr3 W c) ⟨t.val, lt12 t⟩) (blkAt (arr4 W c) ⟨t.val, lt12 t⟩) (arrE W c (ix1 0)) (arrU W c (ix1 0)) (denAt W c (t.val - 1)) := by
  obtain ⟨v, hv⟩ := t
  cases v with
  | zero => exact absurd rfl h
  | succ n => exact ⟨tcNum_succ _ _ _ _ n (lt12 ⟨n + 1, hv⟩), tcDen_succ _ _ _ _ n (lt12 ⟨n + 1, hv⟩)⟩

/-- At every point the body, from what the pipeline hands it, leaves what the proof data state. -/
theorem body_obligation (c : Dev nD) : BodyObligation (dats W 0 c) (defs₀ (F := F)) 𝒱₀ (none : HIx 1) Set.univ := fun t => by
  rw [bigSep_W1, bigSep_W1]
  have h4 : cfg1.idle 4 (cfg1.grid.coords t) = false := live45 _
  have h5 : cfg1.idle 5 (cfg1.grid.coords t) = false := live45 _
  have l4 : (dats W 0 c).leavesExact 4 t = (owns (c.tc : Thread nD τ) ((cfg1.win 4).stage (cfg1.slots t 4)) fullShare (numAt W c t.val) : sProp 𝕄) := by
    unfold Dat.leavesExact; rw [h4]; rfl
  have l5 : (dats W 0 c).leavesExact 5 t = (owns (c.tc : Thread nD τ) ((cfg1.win 5).stage (cfg1.slots t 5)) fullShare (denAt W c t.val) : sProp 𝕄) := by
    unfold Dat.leavesExact; rw [h5]; rfl
  rw [show (dats W 0 c).Φ t.castSucc = iprop(emp) from rfl, show (dats W 0 c).Φ t.succ = iprop(emp) from rfl,
    show (dats W 0 c).owesAt (none : HIx 1) t.succ = (dats W 0 c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩⟩
  rw [before_0, before_1, before_2, before_3]
  by_cases h : t.val = 0
  · have hv := st_first W c t h
    have hi : (cfg1.grid.coords t 0).val = 0 := (coords1 t).trans h
    iapply (body_first c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) ((condLast_iff _).mpr hi) (fun hc => (condNext_iff _).mp hc hi) (arrE W c) (arrU W c)
      (blkAt (arr3 W c) ⟨t.val, lt12 t⟩) (blkAt (arr4 W c) ⟨t.val, lt12 t⟩) ((dats W 0 c).before 4 t d4) ((dats W 0 c).before 5 t d5) _)
    rw [← hv.1, ← hv.2]
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]; · iapply (Entails.of_eq l4.symm); iexact H4
    iapply (Entails.of_eq l5.symm); iexact H5
  · have hv := st_later W c t h
    have hi : (cfg1.grid.coords t 0).val ≠ 0 := fun e => h ((coords1 t).symm.trans e)
    rw [before_4 W c t h, before_5 W c t h]
    iapply (body_later c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) (fun hc => hi ((condLast_iff _).mp hc)) ((condNext_iff _).mpr hi) (arrE W c) (arrU W c)
      (blkAt (arr3 W c) ⟨t.val, lt12 t⟩) (blkAt (arr4 W c) ⟨t.val, lt12 t⟩) (numAt W c (t.val - 1)) (denAt W c (t.val - 1)) _)
    rw [← hv.1, ← hv.2]
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]; · iapply (Entails.of_eq l4.symm); iexact H4
    iapply (Entails.of_eq l5.symm); iexact H5

end Seg

end Cert.Proof

end
-- ==== Proof.Call.lean ====
/-
  The TensorCore call's step in the whole program, and what it leaves in every array.
-/
module

public import proofs.«01_k».proof.Proof.RegionBody
public import Idealize.ShloMosaic.Lib.Pipeline.RegionArraysS

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig (HIx 1) (Elt F) ℕ UU ℕ

section Call

variable (W : Dev nD → Valuation τ sig (Elt F))

/-- The call entered from every array of the TensorCore at `W` and left with them at what the call leaves, the core
    owing nothing before and after. -/
def seg : Pipeline.RegionSeg (pcfgs (F := F)) adm (dats W) (none : HIx 1) (defs₀ (F := F)) 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(StableHlo.held (c.tc : Thread nD τ) (Pipeline.ucRefs τ sig) (W c)
    ∗ ∃ Wd, ⌜(K (F := F)).WBelow (SparseCore.T c) Wd 8⌝ ∗ owes (c.tc : Thread nD τ) (0 : CellTallies nD τ sig (HIx 1)) Wd)
  post c := iprop(StableHlo.held (c.tc : Thread nD τ) (Pipeline.ucRefs τ sig) (Pipeline.afterRegion (dats W 0 c) (W c))
    ∗ ∃ Wd, ⌜(K (F := F)).WBelow (SparseCore.T c) Wd 8⌝ ∗ owes (c.tc : Thread nD τ) (0 : CellTallies nD τ sig (HIx 1)) Wd)
  X _ := BI.emp
  Y _ := BI.emp
  Z c := StableHlo.held (c.tc : Thread nD τ) (Pipeline.ucRefs τ sig \ Pipeline.arrRefs spec1) (W c)
  hentry c := by
    rw [Pipeline.ownSems0_none, Pipeline.prefHeld_of_none _ rfl,
      StableHlo.held_sub_split (c.tc : Thread nD τ) (Pipeline.arrRefs_sub_ucRefs spec1 (fun w => by revert w; decide)) (W c),
      Pipeline.arrays_held (pcfgs (F := F)) adm (dats W) 0 launch1.toP c ((dats W 0 c).share_full fun _ => rfl) ((dats W 0 c).arrAt · 0) (W c) fun _ => rfl]
    iintro ⟨⟨⟨Ha, Hr⟩, ⟨%Wd, %hW, HO⟩⟩, -, -⟩
    imodintro
    isplitl [Ha]; · iexact Ha
    isplitr; · iempintro
    isplitl [HO]
    · unfold Pipeline.Dat.owesAt Pipeline.owesWithin
      iexists Wd; isplitr; · ipureintro; exact fun p hp => Or.inl (hW p hp)
      iexact HO
    isplitr; · iempintro
    iexact Hr
  hin c := by
    rw [show (dats W 0 c).Φ 0 = iprop(emp) from rfl]
    iintro -; iempintro
  hout c := by
    rw [Pipeline.ownSems0_none]
    have h := scopedRest1_eq (Ix := HIx 1) (Val := Elt F) (Name := ℕ) (U := UU) (Lvl := ℕ) c
    refine BIBase.Entails.trans ?_ (Entails.of_eq (congrArg (fun X : sProp 𝕄 => iprop(emp ∗ emp ∗ X)) h.symm))
    iintro -
    isplitr; · iempintro
    isplitr; · iempintro
    iempintro
  hexit c := by
    rw [Pipeline.arrays_held (pcfgs (F := F)) adm (dats W) 0 launch1.toP c ((dats W 0 c).share_full fun _ => rfl) _ (Pipeline.afterRegion (dats W 0 c) (W c))
        (fun w => (Pipeline.afterRegion_arr (dats W 0 c) (W c) launch1.win.arr_inj w).symm)]
    have hs := StableHlo.held_sub_split (Ix := HIx 1) (Name := ℕ) (U := UU) (Lvl := ℕ) (c.tc : Thread nD τ)
      (Pipeline.arrRefs_sub_ucRefs spec1 (fun w => by revert w; decide)) (Pipeline.afterRegion (dats W 0 c) (W c))
    rw [hs, StableHlo.held_congr (c.tc : Thread nD τ) (S := Pipeline.ucRefs τ sig \ Pipeline.arrRefs spec1) (V := Pipeline.afterRegion (dats W 0 c) (W c)) (V' := W c)
      (Pipeline.afterRegion_off (dats W 0 c) (W c) _)]
    iintro ⟨Ha, HO, -, Hr⟩
    imodintro
    isplitl [Ha Hr]
    · isplitl [Ha]; · iexact Ha
      iexact Hr
    unfold Pipeline.Dat.owesAt Pipeline.owesWithin
    icases HO with ⟨%Wd, %hW, HO⟩
    iexists Wd
    isplitr
    · ipureintro
      intro p hp
      rcases hW hp with h | ⟨w, s, h⟩
      · exact h
      · rw [h]; exact Nat.zero_le 8
    iexact HO

/-- The rounds' ghost state the call's waits use on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The call's step in the whole program. -/
theorem wp_call1 [∀ e, Nonempty (Elt F e)] (c : Dev nD) (Q : PUnit → sProp 𝕄) :
    iprop((iprop(boundary (c.tc : Thread nD τ) ∗ (seg W).post c) -∗ Q ⟨⟩)
        ∗ boundary (c.tc : Thread nD τ) ∗ (seg W).pre c ∗ levAts (K (F := F)).L (K (F := F)).lev ∗ G c)
      ⊢ wp frame (wpE ((K (F := F)).defs D) 𝒱 (c.tc : Thread nD τ) none) Set.univ
        (Prog.lift (.customCall (SparseCore.inner (Pipeline.entry 0)) ())) Q := by
  refine BIBase.Entails.trans ?_ ((K (F := F)).wp_liftProg D 𝒱 (c.tc : Thread nD τ) Set.univ none
    (.op (.customCall (Pipeline.entry (0 : Fin 1)) ()) .ret) Q)
  refine BIBase.Entails.trans ?_ (Pipeline.RegionSeg.wp (pcfgs (F := F)) adm (dats W) (none : HIx 1) cellOf_inj EP (defs₀ (F := F)) 𝒱₀
    (K (F := F)).L (K (F := F)).lev (seg W) c none (fun _ h => nomatch h) .ret Q)
  iintro ⟨Hk, Hb, Hp, Hl, Hg, Ht⟩
  isplitl [Hk]
  · iintro H
    rw [wp_ret]
    imodintro
    iapply Hk $$ H
  isplitl [Hb]; · iexact Hb
  isplitl [Hp]; · iexact Hp
  isplitl [Hl]; · iexact Hl
  isplitl [Hg]; · iexact Hg
  iexact Ht

/-- The accumulators the call leaves in its two output arrays. -/
theorem after_num (c : Dev nD) : Pipeline.afterRegion (dats W 0 c) (W c) (Proc.devRef .tc main_v5_0) = numAt W c 11 :=
  (Pipeline.afterRegion_arr (dats W 0 c) (W c) launch1.win.arr_inj 4).trans
    ((dats W 0 c).arrAt_eq_of_after_last 4 t1_11 (by decide +kernel) (numAt W c 11) fun y => by
      refine congrArg (numAt W c 11) (funext fun a => Fin.ext ?_)
      rfl)

theorem after_den (c : Dev nD) : Pipeline.afterRegion (dats W 0 c) (W c) (Proc.devRef .tc main_v5_1) = denAt W c 11 :=
  (Pipeline.afterRegion_arr (dats W 0 c) (W c) launch1.win.arr_inj 5).trans
    ((dats W 0 c).arrAt_eq_of_after_last 5 t1_11 (by decide +kernel) (denAt W c 11) fun y => by
      refine congrArg (denAt W c 11) (funext fun a => Fin.ext ?_)
      rfl)

/-- Every other array it leaves as it was. -/
theorem after_keeps (c : Dev nD) (r : Ref sig .tc) (h4 : main_v5_0 ≠ r) (h5 : main_v5_1 ≠ r) :
    Pipeline.afterRegion (dats W 0 c) (W c) (Proc.devRef .tc r) = W c (Proc.devRef .tc r) :=
  Pipeline.afterRegion_keeps (dats W 0 c) (W c) launch1.win.arr_inj (fun _ => rfl) r fun w hw => by
    match w with
    | 0 => rfl
    | 1 => rfl
    | 2 => rfl
    | 3 => rfl
    | 4 => exact absurd hw h4
    | 5 => exact absurd hw h5

end Call

end Cert.Proof

end
-- ==== Proof.Host.lean ====
/-
  The program on the TensorCore as lines of operations around its two calls, and what every array holds along it.
-/
module

public import proofs.«01_k».proof.Proof.Call

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Before the SparseCore call: the thresholds broadcast to sixteen lanes. -/
abbrev opsA : List (HloOp τ sig (Elt F)) := [
    StableHlo.unary main_arg2 main_v0 (broadcastInDim S16 ![0] bcast_S1_S16_0 : (⟨S1, .f32⟩ : BufTy).Contents (Elt F) → (⟨S16, .f32⟩ : BufTy).Contents (Elt F)),
    StableHlo.unary main_arg3 main_v1 (broadcastInDim S16 ![0] bcast_S1_S16_0 : (⟨S1, .f32⟩ : BufTy).Contents (Elt F) → (⟨S16, .f32⟩ : BufTy).Contents (Elt F))]
/-- Between the two calls: the samples as rows of 128. -/
abbrev opsB : List (HloOp τ sig (Elt F)) := [
    StableHlo.reshape main_arg0 main_v3 (rfl : (.f32 : EltTy) = .f32) shapeCasts_S16777216_S131072x128,
    StableHlo.reshape main_arg1 main_v4 (rfl : (.f32 : EltTy) = .f32) shapeCasts_S16777216_S131072x128]
/-- After the calls: the sums of the partial results and the loss. -/
abbrev opsC : List (HloOp τ sig (Elt F)) := [
    StableHlo.nullary main_cst (constant S_ .f32 0x00000000#32),
    StableHlo.binary main_v2_1 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_v2_0 main_cst_0 main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v6 main_v7 main_v8 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x3F000000#32),
    StableHlo.binary main_v8 main_cst_1 main_v9 (mulf : (⟨S_, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v5_0 main_cst_2 main_v10 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    StableHlo.binary main_v9 main_v10 main_v11 (addf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v5_1 main_cst_3 main_v12 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    StableHlo.binary main_v6 main_v12 main_v13 (addf : (⟨S_, .f32⟩ : BufTy).Contents (Elt F) → (⟨S_, .f32⟩ : BufTy).Contents (Elt F) → (⟨S_, .f32⟩ : BufTy).Contents (Elt F)),
    StableHlo.nullary main_cst_4 (constant S_ .f32 0x2EDBE6FF#32),
    StableHlo.binary main_v13 main_cst_4 main_v14 (addf : (⟨S_, .f32⟩ : BufTy).Contents (Elt F) → (⟨S_, .f32⟩ : BufTy).Contents (Elt F) → (⟨S_, .f32⟩ : BufTy).Contents (Elt F)),
    StableHlo.binary main_v11 main_v14 main_v15 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x2EDBE6FF#32),
    StableHlo.binary main_v15 main_cst_5 main_v16 (addf : (⟨S_, .f32⟩ : BufTy).Contents (Elt F) → (⟨S_, .f32⟩ : BufTy).Contents (Elt F) → (⟨S_, .f32⟩ : BufTy).Contents (Elt F)),
    StableHlo.unary main_v16 main_v17 (Host.log : (⟨S_, .f32⟩ : BufTy).Contents (Elt F) → (⟨S_, .f32⟩ : BufTy).Contents (Elt F)),
    StableHlo.nullary main_cst_6 (constant S_ .f32 0xBF800000#32),
    StableHlo.binary main_cst_6 main_v17 main_v18 (mulf : (⟨S_, .f32⟩ : BufTy).Contents (Elt F) → (⟨S_, .f32⟩ : BufTy).Contents (Elt F) → (⟨S_, .f32⟩ : BufTy).Contents (Elt F))]

set_option maxRecDepth 8192 in
theorem main_eq (d : Dev nD) : main (F := F) d
    = StableHlo.seq opsA >>= fun _ => (K (F := F)).run d 0 >>= fun _ => StableHlo.seq opsB >>= fun _ =>
        Prog.lift (.customCall (SparseCore.inner (Pipeline.entry 0)) ()) >>= fun _ => StableHlo.seq opsC := rfl

/-! ## The contents of the arrays along the program -/

section Vals

variable (m : (ℓ : Loc nD τ sig) → Buf (Elt F) ℓ)

/-- At launch. -/
abbrev V0 (d : Dev nD) : Valuation τ sig (Elt F) := fun b => m (d, b)
/-- At the SparseCore call. -/
def V1 (d : Dev nD) : Valuation τ sig (Elt F) := StableHlo.after opsA (V0 m d)
/-- After it: its two results as the workers leave them. -/
def V2 (d : Dev nD) : Valuation τ sig (Elt F) :=
  Function.update (Function.update (V1 m d) (Proc.devRef .tc main_v2_0) (resQ m d)) (Proc.devRef .tc main_v2_1) (resD m d)
/-- At the TensorCore call. -/
def V3 (d : Dev nD) : Valuation τ sig (Elt F) := StableHlo.after opsB (V2 m d)
/-- After it. -/
def V4 (d : Dev nD) : Valuation τ sig (Elt F) := Pipeline.afterRegion (dats (V3 m) 0 d) (V3 m d)
/-- At the end. -/
def V5 (d : Dev nD) : Valuation τ sig (Elt F) := StableHlo.after opsC (V4 m d)

/-- What the operations after the calls make of the four arrays of partial sums. -/
def hostOut (q dd : S32x16.Idx → F .f32) (num den : S1x128.Idx → F .f32) : S_.Idx → F .f32 :=
  let zero : FVec F S_ .f32 := constant S_ .f32 0x00000000#32
  let dsum : FVec F S_ .f32 := Host.reduceAdd dd zero reducesTo_S32x16_S_d0_1 h_S_
  let qsum : FVec F S_ .f32 := Host.reduceAdd q zero reducesTo_S32x16_S_d0_1 h_S_
  let nsum : FVec F S_ .f32 := Host.reduceAdd num zero reducesTo_S1x128_S_d0_1 h_S_
  let tsum : FVec F S_ .f32 := Host.reduceAdd den zero reducesTo_S1x128_S_d0_1 h_S_
  let eps : FVec F S_ .f32 := constant S_ .f32 0x2EDBE6FF#32
  mulf (constant S_ .f32 0xBF800000#32) (Host.log (addf (Host.divf (addf (mulf (addf dsum qsum) (constant S_ .f32 0x3F000000#32)) nsum) (addf (addf dsum tsum) eps)) eps))

theorem after_opsC (V : Valuation τ sig (Elt F)) :
    StableHlo.after opsC V (Proc.devRef .tc main_v18)
      = hostOut (V (Proc.devRef .tc main_v2_0)) (V (Proc.devRef .tc main_v2_1)) (V (Proc.devRef .tc main_v5_0)) (V (Proc.devRef .tc main_v5_1)) := by
  simp only [opsC]; after_results_simp <;> rfl

theorem opsC_arg0 (V : Valuation τ sig (Elt F)) : StableHlo.after opsC V (Proc.devRef .tc main_arg0) = V (Proc.devRef .tc main_arg0) := by simp only [opsC]; after_results_simp
theorem opsC_arg1 (V : Valuation τ sig (Elt F)) : StableHlo.after opsC V (Proc.devRef .tc main_arg1) = V (Proc.devRef .tc main_arg1) := by simp only [opsC]; after_results_simp
theorem opsC_arg2 (V : Valuation τ sig (Elt F)) : StableHlo.after opsC V (Proc.devRef .tc main_arg2) = V (Proc.devRef .tc main_arg2) := by simp only [opsC]; after_results_simp
theorem opsC_arg3 (V : Valuation τ sig (Elt F)) : StableHlo.after opsC V (Proc.devRef .tc main_arg3) = V (Proc.devRef .tc main_arg3) := by simp only [opsC]; after_results_simp

theorem opsB_v3 (V : Valuation τ sig (Elt F)) : StableHlo.after opsB V (Proc.devRef .tc main_v3) = (shapeCast S131072x128 (V (Proc.devRef .tc main_arg0) : S16777216.Idx → F .f32) shapeCasts_S16777216_S131072x128 : S131072x128.Idx → F .f32) := by
  simp only [opsB]; after_results_simp <;> rfl
theorem opsB_v4 (V : Valuation τ sig (Elt F)) : StableHlo.after opsB V (Proc.devRef .tc main_v4) = (shapeCast S131072x128 (V (Proc.devRef .tc main_arg1) : S16777216.Idx → F .f32) shapeCasts_S16777216_S131072x128 : S131072x128.Idx → F .f32) := by
  simp only [opsB]; after_results_simp <;> rfl
theorem opsB_keeps (V : Valuation τ sig (Elt F)) (r : Ref sig .tc) (h3 : r ≠ main_v3) (h4 : r ≠ main_v4) :
    StableHlo.after opsB V (Proc.devRef .tc r) = V (Proc.devRef .tc r) := by
  refine StableHlo.after_of_forall_not_mem _ _ fun op hop hb => ?_
  simp only [opsB, List.mem_cons, List.not_mem_nil, or_false] at hop
  rcases hop with rfl | rfl
  · exact StableHlo.devRef_ne_of_ne h3 (Finset.mem_singleton.mp hb)
  · exact StableHlo.devRef_ne_of_ne h4 (Finset.mem_singleton.mp hb)
theorem opsA_v0 (V : Valuation τ sig (Elt F)) : StableHlo.after opsA V (Proc.devRef .tc main_v0) = (broadcastInDim S16 ![0] bcast_S1_S16_0 (V (Proc.devRef .tc main_arg2) : S1.Idx → F .f32) : S16.Idx → F .f32) := by
  simp only [opsA]; after_results_simp
theorem opsA_v1 (V : Valuation τ sig (Elt F)) : StableHlo.after opsA V (Proc.devRef .tc main_v1) = (broadcastInDim S16 ![0] bcast_S1_S16_0 (V (Proc.devRef .tc main_arg3) : S1.Idx → F .f32) : S16.Idx → F .f32) := by
  simp only [opsA]; after_results_simp
theorem opsA_keeps (V : Valuation τ sig (Elt F)) (r : Ref sig .tc) (h0 : r ≠ main_v0) (h1 : r ≠ main_v1) :
    StableHlo.after opsA V (Proc.devRef .tc r) = V (Proc.devRef .tc r) := by
  refine StableHlo.after_of_forall_not_mem _ _ fun op hop hb => ?_
  simp only [opsA, List.mem_cons, List.not_mem_nil, or_false] at hop
  rcases hop with rfl | rfl
  · exact StableHlo.devRef_ne_of_ne h0 (Finset.mem_singleton.mp hb)
  · exact StableHlo.devRef_ne_of_ne h1 (Finset.mem_singleton.mp hb)

/-- The SparseCore call changes its two results only. -/
theorem V2_q (d : Dev nD) : V2 m d (Proc.devRef .tc main_v2_0) = resQ m d := by
  unfold V2
  rw [Function.update_of_ne (StableHlo.devRef_ne_of_ne (show main_v2_0 ≠ main_v2_1 by decide)), Function.update_self]
theorem V2_d (d : Dev nD) : V2 m d (Proc.devRef .tc main_v2_1) = resD m d := by
  unfold V2; rw [Function.update_self]
theorem V2_off (d : Dev nD) (b : DevRef τ sig) (h0 : b ≠ Proc.devRef .tc main_v2_0) (h1 : b ≠ Proc.devRef .tc main_v2_1) : V2 m d b = V1 m d b := by
  unfold V2; rw [Function.update_of_ne h1, Function.update_of_ne h0]

/-- A buffer no operation and neither call writes. -/
theorem V4_keeps (d : Dev nD) (r : Ref sig .tc) (h0 : r ≠ main_v0) (h1 : r ≠ main_v1) (h20 : r ≠ main_v2_0) (h21 : r ≠ main_v2_1)
    (h3 : r ≠ main_v3) (h4 : r ≠ main_v4) (h50 : main_v5_0 ≠ r) (h51 : main_v5_1 ≠ r) : V4 m d (Proc.devRef .tc r) = m ((SparseCore.T d).loc r) := by
  unfold V4
  rw [after_keeps (V3 m) d r h50 h51]
  unfold V3
  rw [opsB_keeps _ r h3 h4, V2_off m d _ (StableHlo.devRef_ne_of_ne h20) (StableHlo.devRef_ne_of_ne h21)]
  unfold V1
  rw [opsA_keeps _ r h0 h1]

theorem V3_keeps (d : Dev nD) (r : Ref sig .tc) (h0 : r ≠ main_v0) (h1 : r ≠ main_v1) (h20 : r ≠ main_v2_0) (h21 : r ≠ main_v2_1)
    (h3 : r ≠ main_v3) (h4 : r ≠ main_v4) : V3 m d (Proc.devRef .tc r) = m ((SparseCore.T d).loc r) := by
  unfold V3
  rw [opsB_keeps _ r h3 h4, V2_off m d _ (StableHlo.devRef_ne_of_ne h20) (StableHlo.devRef_ne_of_ne h21)]
  unfold V1
  rw [opsA_keeps _ r h0 h1]

theorem V5_arg0 (d : Dev nD) : V5 m d (Proc.devRef .tc main_arg0) = m ((SparseCore.T d).loc main_arg0) := by
  unfold V5; rw [opsC_arg0]; exact V4_keeps m d _ (by decide) (by decide) (by decide) (by decide) (by decide) (by decide) (by decide) (by decide)
theorem V5_arg1 (d : Dev nD) : V5 m d (Proc.devRef .tc main_arg1) = m ((SparseCore.T d).loc main_arg1) := by
  unfold V5; rw [opsC_arg1]; exact V4_keeps m d _ (by decide) (by decide) (by decide) (by decide) (by decide) (by decide) (by decide) (by decide)
theorem V5_arg2 (d : Dev nD) : V5 m d (Proc.devRef .tc main_arg2) = m ((SparseCore.T d).loc main_arg2) := by
  unfold V5; rw [opsC_arg2]; exact V4_keeps m d _ (by decide) (by decide) (by decide) (by decide) (by decide) (by decide) (by decide) (by decide)
theorem V5_arg3 (d : Dev nD) : V5 m d (Proc.devRef .tc main_arg3) = m ((SparseCore.T d).loc main_arg3) := by
  unfold V5; rw [opsC_arg3]; exact V4_keeps m d _ (by decide) (by decide) (by decide) (by decide) (by decide) (by decide) (by decide) (by decide)

/-- The samples as rows of 128. -/
abbrev errR (d : Dev nD) : S131072x128.Idx → F .f32 := shapeCast S131072x128 (errA m d) shapeCasts_S16777216_S131072x128
abbrev uncR (d : Dev nD) : S131072x128.Idx → F .f32 := shapeCast S131072x128 (uncA m d) shapeCasts_S16777216_S131072x128

/-- The kernel's result as a function of the launch memory. -/
def outV (d : Dev nD) : S_.Idx → F .f32 :=
  hostOut (resQ m d) (resD m d) (tcNum (errR m d) (uncR m d) (ethA m d (ix1 0)) (uthA m d (ix1 0)) 11)
    (tcDen (errR m d) (uncR m d) (ethA m d (ix1 0)) (uthA m d (ix1 0)) 11)

theorem V3_v3 (d : Dev nD) : V3 m d (Proc.devRef .tc main_v3) = errR m d := by
  unfold V3; rw [opsB_v3, V2_off m d _ (StableHlo.devRef_ne_of_ne (by decide)) (StableHlo.devRef_ne_of_ne (by decide))]
  unfold V1; rw [opsA_keeps _ main_arg0 (by decide) (by decide)]
theorem V3_v4 (d : Dev nD) : V3 m d (Proc.devRef .tc main_v4) = uncR m d := by
  unfold V3; rw [opsB_v4, V2_off m d _ (StableHlo.devRef_ne_of_ne (by decide)) (StableHlo.devRef_ne_of_ne (by decide))]
  unfold V1; rw [opsA_keeps _ main_arg1 (by decide) (by decide)]

theorem V5_out (d : Dev nD) : V5 m d (Proc.devRef .tc main_v18) = outV m d := by
  unfold V5 outV
  rw [after_opsC]
  have h0 : V4 m d (Proc.devRef .tc main_v2_0) = resQ m d := by
    unfold V4; rw [after_keeps (V3 m) d _ (by decide) (by decide)]; unfold V3; rw [opsB_keeps _ _ (by decide) (by decide)]; exact V2_q m d
  have h1 : V4 m d (Proc.devRef .tc main_v2_1) = resD m d := by
    unfold V4; rw [after_keeps (V3 m) d _ (by decide) (by decide)]; unfold V3; rw [opsB_keeps _ _ (by decide) (by decide)]; exact V2_d m d
  have e3 : arr3 (V3 m) d = errR m d := V3_v3 m d
  have e4 : arr4 (V3 m) d = uncR m d := V3_v4 m d
  have eE : arrE (V3 m) d = ethA m d := V3_keeps m d _ (by decide) (by decide) (by decide) (by decide) (by decide) (by decide)
  have eU : arrU (V3 m) d = uthA m d := V3_keeps m d _ (by decide) (by decide) (by decide) (by decide) (by decide) (by decide)
  have h2 : V4 m d (Proc.devRef .tc main_v5_0) = tcNum (errR m d) (uncR m d) (ethA m d (ix1 0)) (uthA m d (ix1 0)) 11 := by
    unfold V4; rw [after_num (V3 m) d]; unfold numAt; rw [e3, e4, eE, eU]
  have h3 : V4 m d (Proc.devRef .tc main_v5_1) = tcDen (errR m d) (uncR m d) (ethA m d (ix1 0)) (uthA m d (ix1 0)) 11 := by
    unfold V4; rw [after_den (V3 m) d]; unfold denAt; rw [e3, e4, eE, eU]
  rw [h0, h1, h2, h3]

end Vals

end Cert.Proof

end
-- ==== Proof.Main.lean ====
/-
  The whole run: the launch element, the program on the TensorCore through both calls, and what the final memory holds.
-/
module

public import proofs.«01_k».proof.Proof.Obl
public import proofs.«01_k».proof.Proof.Deal
public import proofs.«01_k».proof.Proof.Host

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Rounds

variable (m : (ℓ : Loc nD τ sig) → Buf (Elt F) ℓ) (ρ : Dev nD → PrngReg)

/-! ## The launch element of the ghost state -/

/-- The handshakes' rounds, the pipeline's rounds, no counter yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem Px (q : Fin 1) (thr : Thread nD τ) : (P m).x q thr = iprop(emp) := rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  have e0 : (bigSep Finset.univ fun thr : Thread nD τ => bigSep Finset.univ fun q : Fin 1 => (P m).x q thr : sProp 𝕄) = iprop(emp) :=
    (bigSep_congr fun thr _ => (bigSep_congr fun q _ => Px m q thr).trans (bigSep_emp_const Finset.univ)).trans (bigSep_emp_const Finset.univ)
  rw [e0]
  iintro Hu
  ihave H := (ownU_split _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl [Hg Ht]
  · unfold G
    rw [bigSep_sep']
    have e1 : (bigSep Finset.univ fun c : Dev nD => bigSep Finset.univ fun p : Fin 1 => Pipeline.cellsGhost (Pipeline.pin (pcfgs (F := F)) adm) EP p c : sProp 𝕄)
        = bigSep Finset.univ fun c : Dev nD => Pipeline.cellsGhost (Pipeline.pin (pcfgs (F := F)) adm) EP 0 c :=
      bigSep_congr fun c _ => bigSep_univ_of_subsingleton (0 : Fin 1)
    have e2 : (bigSep Finset.univ fun c : Dev nD => bigSep Finset.univ fun p : Fin 1 => Pipeline.toksInit (Pipeline.pin (pcfgs (F := F)) adm) EP p c : sProp 𝕄)
        = bigSep Finset.univ fun c : Dev nD => Pipeline.toksInit (Pipeline.pin (pcfgs (F := F)) adm) EP 0 c :=
      bigSep_congr fun c _ => bigSep_univ_of_subsingleton (0 : Fin 1)
    rw [← e1, ← e2]
    isplitl [Hg]; · iexact Hg
    iexact Ht
  iempintro

/-! ## The program on the TensorCore -/

/-- The arrays the SparseCore call touches. -/
def T6 : Finset (DevRef τ sig) := {Proc.devRef .tc main_arg0, Proc.devRef .tc main_arg1, Proc.devRef .tc main_v0, Proc.devRef .tc main_v1, Proc.devRef .tc main_v2_0, Proc.devRef .tc main_v2_1}
theorem T6_sub : T6 ⊆ Pipeline.ucRefs τ sig := by unfold T6; decide

omit [FloatOps F] in
theorem held_T6 (d : Dev nD) (W : Valuation τ sig (Elt F)) : (StableHlo.held (SparseCore.T d) T6 W : sProp 𝕄)
    = iprop((eLoc d ↦{fullShare} W (Proc.devRef .tc main_arg0)) ∗ (uLoc d ↦{fullShare} W (Proc.devRef .tc main_arg1)) ∗ (etLoc d ↦{fullShare} W (Proc.devRef .tc main_v0))
      ∗ (utLoc d ↦{fullShare} W (Proc.devRef .tc main_v1)) ∗ (qLoc d ↦{fullShare} W (Proc.devRef .tc main_v2_0)) ∗ (dLoc d ↦{fullShare} W (Proc.devRef .tc main_v2_1))) := by
  unfold StableHlo.held T6
  rw [SparseCore.bigSep_insert' (by decide), SparseCore.bigSep_insert' (by decide), SparseCore.bigSep_insert' (by decide), SparseCore.bigSep_insert' (by decide),
    SparseCore.bigSep_insert' (by decide), bigSep_singleton]

/-- The arrays the claims speak of. -/
def T5 : Finset (DevRef τ sig) := {Proc.devRef .tc main_arg0, Proc.devRef .tc main_arg1, Proc.devRef .tc main_arg2, Proc.devRef .tc main_arg3, Proc.devRef .tc main_v18}
theorem T5_sub : T5 ⊆ Pipeline.ucRefs τ sig := by unfold T5; decide

/-- What is known of the arrays at the end of the program on device `d`. -/
abbrev FIN (d : Dev nD) : sProp 𝕄 := StableHlo.held (SparseCore.T d) T5 (V5 m d)

theorem V1_at (d : Dev nD) : V1 m d (Proc.devRef .tc main_arg0) = errA m d ∧ V1 m d (Proc.devRef .tc main_arg1) = uncA m d
    ∧ V1 m d (Proc.devRef .tc main_v0) = ethB m d ∧ V1 m d (Proc.devRef .tc main_v1) = uthB m d
    ∧ V1 m d (Proc.devRef .tc main_v2_0) = m (qLoc d) ∧ V1 m d (Proc.devRef .tc main_v2_1) = m (dLoc d) := by
  unfold V1
  exact ⟨opsA_keeps _ _ (by decide) (by decide), opsA_keeps _ _ (by decide) (by decide), opsA_v0 _, opsA_v1 _, opsA_keeps _ _ (by decide) (by decide), opsA_keeps _ _ (by decide) (by decide)⟩

/-- Before the SparseCore call: its arrays are its operands and what stays behind. -/
theorem call_in (d : Dev nD) : (StableHlo.held (SparseCore.T d) T6 (V1 m d) : sProp 𝕄)
    = iprop((bigSep Finset.univ fun c : Fin ((K (F := F)).nCore 0) => (P m).st 0 d c)
        ∗ (restR (eLoc d) (errA m d) ∗ restR (uLoc d) (uncA m d) ∗ restR (etLoc d) (ethB m d) ∗ restR (utLoc d) (uthB m d))) := by
  obtain ⟨h1, h2, h3, h4, h5, h6⟩ := V1_at m d
  rw [held_T6, h1, h2, h3, h4, h5, h6, st_eq, deal_eq]

/-- After it: its results and what stayed behind are its arrays again, the two results written. -/
theorem call_out (d : Dev nD) : (iprop((bigSep Finset.univ fun c : Fin ((K (F := F)).nCore 0) => (P m).dn 0 d c)
        ∗ (restR (eLoc d) (errA m d) ∗ restR (uLoc d) (uncA m d) ∗ restR (etLoc d) (ethB m d) ∗ restR (utLoc d) (uthB m d))) : sProp 𝕄)
    = StableHlo.held (SparseCore.T d) T6 (V2 m d) := by
  obtain ⟨h1, h2, h3, h4, -, -⟩ := V1_at m d
  rw [held_T6, V2_q, V2_d, V2_off m d _ (StableHlo.devRef_ne_of_ne (by decide)) (StableHlo.devRef_ne_of_ne (by decide)),
    V2_off m d _ (StableHlo.devRef_ne_of_ne (by decide)) (StableHlo.devRef_ne_of_ne (by decide)),
    V2_off m d _ (StableHlo.devRef_ne_of_ne (by decide)) (StableHlo.devRef_ne_of_ne (by decide)),
    V2_off m d _ (StableHlo.devRef_ne_of_ne (by decide)) (StableHlo.devRef_ne_of_ne (by decide)), h1, h2, h3, h4, dn_eq, deal_eq]

theorem off_T6 (d : Dev nD) : (StableHlo.held (SparseCore.T d) (Pipeline.ucRefs τ sig \ T6) (V1 m d) : sProp 𝕄)
    = StableHlo.held (SparseCore.T d) (Pipeline.ucRefs τ sig \ T6) (V2 m d) :=
  StableHlo.held_congr _ fun b hb => (V2_off m d b
    (fun e => (Finset.mem_sdiff.mp hb).2 (by rw [e]; unfold T6; decide)) (fun e => (Finset.mem_sdiff.mp hb).2 (by rw [e]; unfold T6; decide))).symm

theorem opsA_sub : ∀ op ∈ (opsA : List (HloOp τ sig (Elt F))), op.bufs ⊆ Pipeline.ucRefs τ sig := fun op h =>
  Pipeline.sub_ucRefs op (by
    simp only [opsA, List.mem_cons, List.not_mem_nil, or_false] at h
    rcases h with rfl | rfl <;> exact StableHlo.unary_bufs_sub ..)
theorem opsB_sub : ∀ op ∈ (opsB : List (HloOp τ sig (Elt F))), op.bufs ⊆ Pipeline.ucRefs τ sig := fun op h =>
  Pipeline.sub_ucRefs op (by
    simp only [opsB, List.mem_cons, List.not_mem_nil, or_false] at h
    rcases h with rfl | rfl <;> exact StableHlo.reshape_bufs_sub ..)
theorem opsC_sub : ∀ op ∈ (opsC : List (HloOp τ sig (Elt F))), op.bufs ⊆ Pipeline.ucRefs τ sig := fun op h =>
  Pipeline.sub_ucRefs op (by
    simp only [opsC, List.mem_cons, List.not_mem_nil, or_false] at h
    rcases h with rfl | rfl | rfl | rfl | rfl | rfl | rfl | rfl | rfl | rfl | rfl | rfl | rfl | rfl | rfl | rfl | rfl | rfl | rfl | rfl | rfl <;>
      first | exact StableHlo.nullary_bufs_sub .. | exact StableHlo.binary_bufs_sub .. | exact StableHlo.unary_bufs_sub ..)
theorem opsA_fresh : ∀ op ∈ (opsA : List (HloOp τ sig (Elt F))), op.fresh = ∅ := by
  intro op h
  simp only [opsA, List.mem_cons, List.not_mem_nil, or_false] at h
  rcases h with rfl | rfl <;> rfl
theorem opsB_fresh : ∀ op ∈ (opsB : List (HloOp τ sig (Elt F))), op.fresh = ∅ := by
  intro op h
  simp only [opsB, List.mem_cons, List.not_mem_nil, or_false] at h
  rcases h with rfl | rfl <;> rfl
theorem opsC_fresh : ∀ op ∈ (opsC : List (HloOp τ sig (Elt F))), op.fresh = ∅ := by
  intro op h
  simp only [opsC, List.mem_cons, List.not_mem_nil, or_false] at h
  rcases h with rfl | rfl | rfl | rfl | rfl | rfl | rfl | rfl | rfl | rfl | rfl | rfl | rfl | rfl | rfl | rfl | rfl | rfl | rfl | rfl | rfl <;> rfl

/-- The thread state after the one SparseCore call, its owing part apart. -/
theorem tcSt_one (d : Dev nD) : ∃ R : sProp 𝕄, (K (F := F)).tcSt EH d 1
    = iprop((∃ Wd, ⌜(K (F := F)).WBelow (SparseCore.T d) Wd 8⌝ ∗ owes (SparseCore.T d) (0 : CellTallies nD τ sig (HIx 1)) Wd) ∗ R) := by
  unfold SparseCore.Cfg.tcSt
  rw [(K (F := F)).Otc_end d (le_refl 1)]
  exact ⟨_, rfl⟩

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [main_eq, show (unscopedBufs d fun b => m ((SparseCore.T d).loc b) : sProp 𝕄) = StableHlo.held (SparseCore.T d) (Pipeline.ucRefs τ sig) (V0 m d) from
    Pipeline.unscopedBufs_held d (V0 m d)]
  iintro ⟨#Hctx, Hst, ⟨Hb, Hu, Hts, -⟩, HG⟩
  iapply (StableHlo.wp_seq 𝒱 none Set.univ d (Pipeline.ucRefs τ sig) _ opsA opsA_sub opsA_fresh (V0 m d)) $$ [Hb Hu]
  · isplitl [Hb]; · iexact Hb
    iexact Hu
  iintro ⟨Hb, Hu⟩
  ihave Hu := (Entails.of_eq (show (StableHlo.held d.tc (Pipeline.ucRefs τ sig) (StableHlo.after opsA (V0 m d)) : sProp 𝕄) = StableHlo.held (SparseCore.T d) (Pipeline.ucRefs τ sig) (V1 m d) from rfl)) $$ Hu
  ihave Hu' := (Entails.of_eq (StableHlo.held_sub_split (SparseCore.T d) T6_sub (V1 m d))) $$ Hu
  icases Hu' with ⟨H6, Hoff⟩
  ihave H6' := (Entails.of_eq (call_in m d)) $$ H6
  icases H6' with ⟨Hops, Hrest⟩
  rw [wp_bind]
  iapply ((K (F := F)).wp_run (D (F := F)) 𝒱 (EH := EH) (P := P m) κ d 0) $$ [Hst Hops Hb Hrest Hoff Hts HG]
  isplitr; · iexact Hctx
  isplitl [Hst]; · iexact Hst
  isplitl [Hops]; · iexact Hops
  iintro ⟨Hst, Hdn⟩
  ihave H6 := (Entails.of_eq (call_out m d)) $$ [Hdn Hrest]
  · isplitl [Hdn]; · iexact Hdn
    iexact Hrest
  ihave Hoff' := (Entails.of_eq (off_T6 m d)) $$ Hoff
  ihave Hu := (Entails.of_eq (StableHlo.held_sub_split (SparseCore.T d) T6_sub (V2 m d)).symm) $$ [H6 Hoff']
  · isplitl [H6]; · iexact H6
    iexact Hoff'
  iapply (StableHlo.wp_seq 𝒱 none Set.univ d (Pipeline.ucRefs τ sig) _ opsB opsB_sub opsB_fresh (V2 m d)) $$ [Hb Hu]
  · isplitl [Hb]; · iexact Hb
    iexact Hu
  iintro ⟨Hb, Hu⟩
  ihave Hu := (Entails.of_eq (show (StableHlo.held d.tc (Pipeline.ucRefs τ sig) (StableHlo.after opsB (V2 m d)) : sProp 𝕄) = StableHlo.held (SparseCore.T d) (Pipeline.ucRefs τ sig) (V3 m d) from rfl)) $$ Hu
  ihave Hst' := (Entails.of_eq (show (K (F := F)).tcSt EH d ((0 : Fin 1).val + 1) = _ from hR)) $$ Hst
  icases Hst' with ⟨HO, HR⟩
  ihave Hlev := ((K (F := F)).ctx_levAts κ) $$ Hctx
  rw [wp_bind]
  iapply (wp_call1 (V3 m) d _)
  isplitr [Hb Hu HO Hlev HG]
  · iintro ⟨Hb, Hp⟩
    ihave Hp := (Entails.of_eq (show (seg (V3 m)).post d = (iprop(StableHlo.held (SparseCore.T d) (Pipeline.ucRefs τ sig) (V4 m d)
        ∗ ∃ Wd, ⌜(K (F := F)).WBelow (SparseCore.T d) Wd 8⌝ ∗ owes (SparseCore.T d) (0 : CellTallies nD τ sig (HIx 1)) Wd) : sProp 𝕄) from rfl)) $$ Hp
    icases Hp with ⟨Hu, HO⟩
    rw [show (StableHlo.seq opsC : Prog (TpuEff nD τ sig (Elt F) _ .tc) PUnit) = StableHlo.seq opsC >>= pure from (bind_pure (StableHlo.seq opsC : Prog (TpuEff nD τ sig (Elt F) _ .tc) PUnit)).symm]
    iapply (StableHlo.wp_seq 𝒱 none Set.univ d (Pipeline.ucRefs τ sig) _ opsC opsC_sub opsC_fresh (V4 m d)) $$ [Hb Hu]
    · isplitl [Hb]; · iexact Hb
      iexact Hu
    iintro ⟨Hb, Hu⟩
    rw [wp_pure]
    imodintro
    ihave Hu := (Entails.of_eq (show (StableHlo.held d.tc (Pipeline.ucRefs τ sig) (StableHlo.after opsC (V4 m d)) : sProp 𝕄) = StableHlo.held (SparseCore.T d) (Pipeline.ucRefs τ sig) (V5 m d) from rfl)) $$ Hu
    ihave Hu' := (Entails.of_eq (StableHlo.held_sub_split (SparseCore.T d) T5_sub (V5 m d))) $$ Hu
    icases Hu' with ⟨H5, -⟩
    isplitl [HO HR]
    · iapply (Entails.of_eq hR.symm)
      isplitl [HO]; · iexact HO
      iexact HR
    isplitl [H5]; · iexact H5
    isplitl [Hb] <;> iassumption
  isplitl [Hb]; · iexact Hb
  isplitl [Hu HO]
  · iapply (Entails.of_eq (show (iprop(StableHlo.held (SparseCore.T d) (Pipeline.ucRefs τ sig) (V3 m d)
        ∗ ∃ Wd, ⌜(K (F := F)).WBelow (SparseCore.T d) Wd 8⌝ ∗ owes (SparseCore.T d) (0 : CellTallies nD τ sig (HIx 1)) Wd) : sProp 𝕄) = (seg (V3 m)).pre d from rfl))
    isplitl [Hu]; · iexact Hu
    iexact HO
  isplitl [Hlev]; · iexact Hlev
  iexact HG

/-! ## What the final memory holds, and the run -/

/-- The arguments as they were and the result at `outV`. -/
def fq (d : Dev nD) (s' : Phys nD τ sig (Elt F)) : Prop :=
  s'.mem.mem ((SparseCore.T d).loc main_v18) = outV m d
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)

omit [FloatOps F] in
/-- An array held at some contents holds them in the memory. -/
theorem held_at (d : Dev nD) (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

omit [FloatOps F] in
theorem held_T5 (d : Dev nD) (W : Valuation τ sig (Elt F)) : (StableHlo.held (SparseCore.T d) T5 W : sProp 𝕄)
    = iprop(((SparseCore.T d).loc main_arg0 ↦{fullShare} W (Proc.devRef .tc main_arg0)) ∗ ((SparseCore.T d).loc main_arg1 ↦{fullShare} W (Proc.devRef .tc main_arg1))
      ∗ ((SparseCore.T d).loc main_arg2 ↦{fullShare} W (Proc.devRef .tc main_arg2)) ∗ ((SparseCore.T d).loc main_arg3 ↦{fullShare} W (Proc.devRef .tc main_arg3))
      ∗ ((SparseCore.T d).loc main_v18 ↦{fullShare} W (Proc.devRef .tc main_v18))) := by
  unfold StableHlo.held T5
  rw [SparseCore.bigSep_insert' (by decide), SparseCore.bigSep_insert' (by decide), SparseCore.bigSep_insert' (by decide), SparseCore.bigSep_insert' (by decide), bigSep_singleton]

theorem hfin (d : Dev nD) (s' : Phys nD τ sig (Elt F)) : iprop(FIN m d ∗ SI s') ⊢ (⌜fq m d s'⌝ : sProp 𝕄) := by
  unfold FIN
  rw [held_T5, V5_arg0, V5_arg1, V5_arg2, V5_arg3, V5_out]
  iintro ⟨⟨H0, H1, H2, H3, H4⟩, HSI⟩
  ihave H := (held_at d s' _ _) $$ [H0 HSI]
  · isplitl [H0] <;> iassumption
  icases H with ⟨%h0, HSI⟩
  ihave H := (held_at d s' _ _) $$ [H1 HSI]
  · isplitl [H1] <;> iassumption
  icases H with ⟨%h1, HSI⟩
  ihave H := (held_at d s' _ _) $$ [H2 HSI]
  · isplitl [H2] <;> iassumption
  icases H with ⟨%h2, HSI⟩
  ihave H := (held_at d s' _ _) $$ [H3 HSI]
  · isplitl [H3] <;> iassumption
  icases H with ⟨%h3, HSI⟩
  ihave H := (held_at d s' _ _) $$ [H4 HSI]
  · isplitl [H4] <;> iassumption
  icases H with ⟨%h4, HSI⟩
  ipureintro; exact ⟨h4, h0, h1, h2, h3⟩

/-- What a run ends with: on every device the result at `outV` and the arguments as they were; every counter at zero. -/
def QC : PUnit × MemSt nD τ sig (Elt F) → Prop := fun r =>
  (∀ d : Dev nD, r.2.mem ((SparseCore.T d).loc main_v18) = outV m d
    ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3))
  ∧ r.2.sem = fun _ => 0

/-- Every weakly fair run of the program, from any memory with the counters at zero, ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end
-- ==== Proof.SameText.lean ====
/-
  The kernel and its idealization have the same text: the two programs are one, read under two names, and the frame of
  the kernel over bits is the run of the idealization's text there.
-/
module

public import proofs.«01_k».proof.Proof.Main
public import proofs.«01_k».proof.Defs
public import proofs.«01_k».proof.Proof.Gen.Kernel

@[expose] public section

noncomputable section

namespace Cert.Proof

open Idealize.ShloMosaic Idealize.SL.Sem

variable {F : FTy → Type} [FloatOps F]

section

open Cert.Kernel Cert.Kernel.Gen

/-- Before the SparseCore call: the thresholds broadcast to sixteen lanes. -/
abbrev kopsA : List (HloOp τ sig (Elt F)) := [
    StableHlo.unary main_arg2 main_v0 (broadcastInDim S16 ![0] bcast_S1_S16_0 : (⟨S1, .f32⟩ : BufTy).Contents (Elt F) → (⟨S16, .f32⟩ : BufTy).Contents (Elt F)),
    StableHlo.unary main_arg3 main_v1 (broadcastInDim S16 ![0] bcast_S1_S16_0 : (⟨S1, .f32⟩ : BufTy).Contents (Elt F) → (⟨S16, .f32⟩ : BufTy).Contents (Elt F))]
/-- Between the two calls: the samples as rows of 128. -/
abbrev kopsB : List (HloOp τ sig (Elt F)) := [
    StableHlo.reshape main_arg0 main_v3 (rfl : (.f32 : EltTy) = .f32) shapeCasts_S16777216_S131072x128,
    StableHlo.reshape main_arg1 main_v4 (rfl : (.f32 : EltTy) = .f32) shapeCasts_S16777216_S131072x128]
/-- After the calls: the sums of the partial results and the loss. -/
abbrev kopsC : List (HloOp τ sig (Elt F)) := [
    StableHlo.nullary main_cst (constant S_ .f32 0x00000000#32),
    StableHlo.binary main_v2_1 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_v2_0 main_cst_0 main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v6 main_v7 main_v8 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x3F000000#32),
    StableHlo.binary main_v8 main_cst_1 main_v9 (mulf : (⟨S_, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v5_0 main_cst_2 main_v10 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    StableHlo.binary main_v9 main_v10 main_v11 (addf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v5_1 main_cst_3 main_v12 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    StableHlo.binary main_v6 main_v12 main_v13 (addf : (⟨S_, .f32⟩ : BufTy).Contents (Elt F) → (⟨S_, .f32⟩ : BufTy).Contents (Elt F) → (⟨S_, .f32⟩ : BufTy).Contents (Elt F)),
    StableHlo.nullary main_cst_4 (constant S_ .f32 0x2EDBE6FF#32),
    StableHlo.binary main_v13 main_cst_4 main_v14 (addf : (⟨S_, .f32⟩ : BufTy).Contents (Elt F) → (⟨S_, .f32⟩ : BufTy).Contents (Elt F) → (⟨S_, .f32⟩ : BufTy).Contents (Elt F)),
    StableHlo.binary main_v11 main_v14 main_v15 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x2EDBE6FF#32),
    StableHlo.binary main_v15 main_cst_5 main_v16 (addf : (⟨S_, .f32⟩ : BufTy).Contents (Elt F) → (⟨S_, .f32⟩ : BufTy).Contents (Elt F) → (⟨S_, .f32⟩ : BufTy).Contents (Elt F)),
    StableHlo.unary main_v16 main_v17 (Host.log : (⟨S_, .f32⟩ : BufTy).Contents (Elt F) → (⟨S_, .f32⟩ : BufTy).Contents (Elt F)),
    StableHlo.nullary main_cst_6 (constant S_ .f32 0xBF800000#32),
    StableHlo.binary main_cst_6 main_v17 main_v18 (mulf : (⟨S_, .f32⟩ : BufTy).Contents (Elt F) → (⟨S_, .f32⟩ : BufTy).Contents (Elt F) → (⟨S_, .f32⟩ : BufTy).Contents (Elt F))]

set_option maxRecDepth 8192 in
/-- The kernel's program, its host operations in three lists. -/
theorem kernel_main_eq (d : Dev nD) : main (F := F) d
    = StableHlo.seq kopsA >>= fun _ => (sc (F := F)).run d 0 >>= fun _ => StableHlo.seq kopsB >>= fun _ =>
        Prog.lift (.customCall (SparseCore.inner (Pipeline.entry 0)) ()) >>= fun _ => StableHlo.seq kopsC := rfl

end

theorem kopsA_eq : (kopsA : List (HloOp _ _ (Elt F))) = opsA := rfl
theorem kopsB_eq : (kopsB : List (HloOp _ _ (Elt F))) = opsB := rfl
theorem kopsC_eq : (kopsC : List (HloOp _ _ (Elt F))) = opsC := rfl
theorem sc_eq : Cert.Kernel.sc (F := F) = Cert.KernelIdeal.sc (F := F) := rfl

set_option maxHeartbeats 1000000 in
/-- The two programs on the TensorCore are one. -/
theorem main_same : Cert.Kernel.main (F := F) = Cert.KernelIdeal.main (F := F) := by
  funext d
  refine (kernel_main_eq d).trans (Eq.trans ?_ (main_eq d).symm)
  refine congrArg₂ Bind.bind ?_ (funext fun _ => ?_)
  · exact congrArg StableHlo.seq kopsA_eq
  refine congrArg₂ Bind.bind ?_ (funext fun _ => ?_)
  · rfl
  refine congrArg₂ Bind.bind ?_ (funext fun _ => ?_)
  · exact congrArg StableHlo.seq kopsB_eq
  refine congrArg₂ Bind.bind ?_ (funext fun _ => ?_)
  · rfl
  · exact congrArg StableHlo.seq kopsC_eq

/-- The two body tables of the kernels are one. -/
theorem bodies_same : Cert.Kernel.defs₀ (F := F) = Cert.KernelIdeal.defs₀ (F := F) := by
  funext p l a
  match p, l, a with
  | .tc, 0, _ => rfl
  | .tc, 1, _ => rfl
  | .scScalar _, _, _ => rfl
  | .scVector _ _, 0, _ => rfl
  | .scVector _ _, 1, _ => rfl

/-- The two whole body tables are one. -/
theorem defs_same : Cert.Kernel.defs (F := F) = Cert.KernelIdeal.defs (F := F) :=
  congrArg (fun D₀ => (Cert.KernelIdeal.sc (F := F)).defs (Pipeline.defs Cert.KernelIdeal.pcfgs D₀)) bodies_same

/-- The two programs of every thread are one. -/
theorem threads_same : Cert.Kernel.threads (F := F) = Cert.KernelIdeal.threads (F := F) :=
  congrArg (Cert.KernelIdeal.sc (F := F)).threads main_same

/-- The run of the kernel, from that of its idealization's text. -/
theorem frame_kernel : Cert.quiescent_Kernel := by
  intro m ρ _
  have h := run_main (F := Bits) m ρ
  rw [← defs_same, ← threads_same] at h
  exact (θ_run Cert.Kernel.defs _ _).mono (fun _ h => ⟨fun c => (h.1 c).2, h.2⟩) h

end Cert.Proof

end
-- ==== Proof.Frames.lean ====
/-
  The frames: each of the three programs ends with its arguments as they were and every counter at zero.
-/
module

public import proofs.«01_k».proof.Proof.SameText
public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The side condition of the precondition's text: a scalar broadcasts over the whole array. -/
instance pre_facts : Cert.Pre_unit_range.Facts where
  bcast_S_S16777216 := Cert.ReferenceIdeal.Facts₀.bcast_S_S16777216

/-- The kernel over extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The same where the precondition holds. -/
theorem frame_ideal_pre : Cert.quiescent_KernelIdeal_pre_unit_range := fun m ρ _ => frame_ideal m ρ trivial

/-- The reference: a straight line of host operations on a machine that has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_reference_pre : Cert.quiescent_ReferenceIdeal_pre_unit_range := fun m ρ _ => frame_reference m ρ trivial

end Cert.Proof

end
-- ==== Proof.Scalars.lean ====
/-
  The scalar facts of the two programs over the real numbers: the polynomial the SparseCore takes for the hyperbolic
  tangent, the weight of one sample, and the weight with the sign of its class.
-/
module

public import Idealize.ShloMosaic.PureOps.Ideal
public import Mathlib.Analysis.SpecialFunctions.Trigonometric.DerivHyp
public import Mathlib.Tactic.Positivity
public import Mathlib.Tactic.NormNum
public import Mathlib.Tactic.Linarith

@[expose] public section

noncomputable section

namespace Cert.Proof

open Idealize.ShloMosaic

/-! ## The constants of the two texts, as real numbers -/

theorem bits_zero : Ideal.ofBits .f32 0x00000000#32 = ((0 : ℝ) : EReal) := by simp [Ideal.ofBits, Ideal.ieee]

/-- A normal number's pattern is worth its sign, its significand and its power of two. -/
theorem bits_normal (b : BitVec 32) (neg : Bool) (ex fr : ℕ) (r : ℝ) (hn : (b.extractLsb' 31 1 == 1#1) = neg)
    (he : (b.extractLsb' 23 8).toNat = ex) (hf : (b.extractLsb' 0 23).toNat = fr) (h0 : ex ≠ 0) (h1 : ex ≠ 255)
    (hr : (if neg then -1 else 1 : ℝ) * ((2 ^ 23 + fr : ℕ) : ℝ) * (2 : ℝ) ^ ((ex : ℤ) - 127 - 23) = r) :
    Ideal.ofBits .f32 b = (r : EReal) := by
  subst hn he hf hr
  show Ideal.ieee 8 23 b = _
  unfold Ideal.ieee
  rw [if_neg (by simpa using h1), if_neg (by simpa using h0)]
  norm_num

theorem bits_one : Ideal.ofBits .f32 0x3F800000#32 = ((1 : ℝ) : EReal) :=
  bits_normal _ false 127 0 _ (by decide) (by decide) (by decide) (by decide) (by decide) (by norm_num [zpow_neg])
theorem bits_half : Ideal.ofBits .f32 0x3F000000#32 = ((1 / 2 : ℝ) : EReal) :=
  bits_normal _ false 126 0 _ (by decide) (by decide) (by decide) (by decide) (by decide) (by norm_num [zpow_neg])

/-- The three coefficients of the polynomial. -/
def c0 : ℝ := 16763101 / 2 ^ 24
def c1 : ℝ := -(10611789 / 2 ^ 25)
def c2 : ℝ := 10675170 / 2 ^ 27

theorem bits_c0 : Ideal.ofBits .f32 0x3F7FC8DD#32 = (c0 : EReal) :=
  bits_normal _ false 126 8374493 _ (by decide) (by decide) (by decide) (by decide) (by decide) (by norm_num [zpow_neg, c0])
theorem bits_c1 : Ideal.ofBits .f32 0xBEA1EC4D#32 = (c1 : EReal) :=
  bits_normal _ true 125 2223181 _ (by decide) (by decide) (by decide) (by decide) (by decide) (by norm_num [zpow_neg, c1])
theorem bits_c2 : Ideal.ofBits .f32 0x3DA2E3E2#32 = (c2 : EReal) :=
  bits_normal _ false 123 2286562 _ (by decide) (by decide) (by decide) (by decide) (by decide) (by norm_num [zpow_neg, c2])

/-! ## The polynomial and the tangent on the unit interval -/

/-- The odd polynomial of degree five. -/
def poly (x : ℝ) : ℝ := x * (c0 + x * x * (c1 + x * x * c2))

theorem poly_nonneg {x : ℝ} (h0 : 0 ≤ x) (h1 : x ≤ 1) : 0 ≤ poly x := by
  have hx : x * x ≤ 1 := by nlinarith
  have hx0 : 0 ≤ x * x := mul_self_nonneg x
  unfold poly; refine mul_nonneg h0 ?_
  unfold c0 c1 c2
  nlinarith [mul_nonneg hx0 hx0]

theorem poly_le_one {x : ℝ} (h0 : 0 ≤ x) (h1 : x ≤ 1) : poly x ≤ 1 := by
  have hx : x * x ≤ 1 := by nlinarith
  have hx0 : 0 ≤ x * x := mul_self_nonneg x
  have hb : c0 + x * x * (c1 + x * x * c2) ≤ 1 := by
    unfold c0 c1 c2
    nlinarith [mul_nonneg hx0 (sub_nonneg.2 hx)]
  unfold poly
  calc x * (c0 + x * x * (c1 + x * x * c2)) ≤ x * 1 := mul_le_mul_of_nonneg_left hb h0
    _ ≤ 1 := by linarith

theorem tanh_nonneg' {x : ℝ} (h0 : 0 ≤ x) : 0 ≤ Real.tanh x := by
  rw [Real.tanh_eq_sinh_div_cosh]; exact div_nonneg (Real.sinh_nonneg_iff.2 h0) (Real.cosh_pos x).le
theorem tanh_le_one' (x : ℝ) : Real.tanh x ≤ 1 := by
  rw [Real.tanh_eq_sinh_div_cosh, div_le_one (Real.cosh_pos x)]; exact (Real.sinh_lt_cosh x).le

/-! ## The weight of a sample -/

/-- The weight of a sample whose tangents are `x` and `y` and whose error and uncertainty are low when `a` and `b` hold: one
    minus the tangent for a low one, the tangent for a high one, multiplied. -/
def weight (a b : Bool) (x y : ℝ) : ℝ := (if a then 1 - x else x) * (if b then 1 - y else y)

/-- The weight of a sample that is accurate and certain or inaccurate and uncertain, zero for any other. -/
def agree (a b : Bool) (x y : ℝ) : ℝ := if a = b then weight a b x y else 0

/-- The weight of a sample of the class `(p, q)`, zero for a sample of another class. -/
def part (p q a b : Bool) (x y : ℝ) : ℝ := if a = p ∧ b = q then weight a b x y else 0

theorem weight_nonneg (a b : Bool) {x y : ℝ} (hx0 : 0 ≤ x) (hx1 : x ≤ 1) (hy0 : 0 ≤ y) (hy1 : y ≤ 1) : 0 ≤ weight a b x y := by
  unfold weight; refine mul_nonneg ?_ ?_ <;> split <;> linarith

/-- The four classes' weights together are the weight. -/
theorem part_all (a b : Bool) (x y : ℝ) :
    part true true a b x y + part true false a b x y + part false true a b x y + part false false a b x y = weight a b x y := by
  cases a <;> cases b <;> simp [part]
/-- The two classes on the diagonal. -/
theorem part_diag (a b : Bool) (x y : ℝ) : part true true a b x y + part false false a b x y = agree a b x y := by
  cases a <;> cases b <;> simp [part, agree]

/-- The SparseCore's signed product: the weight, negated off the diagonal. -/
def signed (a b : Bool) (x y : ℝ) : ℝ := ((if a then 1 else 0) - x) * ((if b then 1 else 0) - y)

theorem abs_signed (a b : Bool) {x y : ℝ} (hx0 : 0 ≤ x) (hx1 : x ≤ 1) (hy0 : 0 ≤ y) (hy1 : y ≤ 1) :
    |signed a b x y| = weight a b x y := by
  unfold signed weight
  rw [abs_mul]
  cases a <;> cases b <;> simp [abs_of_nonneg, sub_nonneg, hx0, hx1, hy0, hy1]
/-- Half of the weight and the signed product together is the weight on the diagonal and zero off it. -/
theorem weight_add_signed (a b : Bool) (x y : ℝ) : (weight a b x y + signed a b x y) * (1 / 2) = agree a b x y := by
  cases a <;> cases b <;> simp [weight, signed, agree] <;> ring

end Cert.Proof

end
-- ==== Proof.Samples.lean ====
/-
  The samples as real numbers: over arrays whose every element lies between zero and one, the tangent the programs take of
  each, the class of each sample and its weight; and the sums of a function over all the samples, cut into the blocks that
  the TensorCore's grid and the SparseCores' workers read.
-/
module

public import proofs.«01_k».proof.Proof.Gen.KernelIdeal
public import proofs.«01_k».proof.Proof.Scalars
public import Idealize.ShloMosaic.Lib.Pointwise.Index

@[expose] public section

noncomputable section

namespace Cert.Proof

open Cert.KernelIdeal Idealize.ShloMosaic

/-! ## A sample's number, tangent, class and weight -/

/-- Every element lies between zero and one. -/
def InUnit (A : S16777216.Idx → EReal) : Prop := ∀ i, 0 ≤ A i ∧ A i ≤ 1

/-- The `n`-th element as a real number (zero past the end). -/
def val (A : S16777216.Idx → EReal) (n : ℕ) : ℝ := if h : n < 16777216 then (A (ix1 ⟨n, h⟩)).toReal else 0

variable {A A0 A1 : S16777216.Idx → EReal}

theorem val_eq (hA : InUnit A) (n : ℕ) (h : n < 16777216) : A (ix1 ⟨n, h⟩) = (val A n : EReal) := by
  unfold val; rw [dif_pos h]
  exact (EReal.coe_toReal (fun e => absurd (hA (ix1 ⟨n, h⟩)).2 (by rw [e]; exact not_le.2 (EReal.coe_lt_top 1)))
    (fun e => absurd (hA (ix1 ⟨n, h⟩)).1 (by rw [e]; simp))).symm
theorem val_nonneg (hA : InUnit A) (n : ℕ) : 0 ≤ val A n := by
  by_cases h : n < 16777216
  · have := (hA (ix1 ⟨n, h⟩)).1; rw [val_eq hA n h] at this; exact_mod_cast this
  · unfold val; rw [dif_neg h]
theorem val_le_one (hA : InUnit A) (n : ℕ) : val A n ≤ 1 := by
  by_cases h : n < 16777216
  · have := (hA (ix1 ⟨n, h⟩)).2; rw [val_eq hA n h] at this; exact_mod_cast this
  · unfold val; rw [dif_neg h]; exact zero_le_one

/-- What the programs take for the hyperbolic tangent of the `n`-th element: the tangent in the first three quarters of the
    array, the polynomial in the last quarter. -/
def tv (A : S16777216.Idx → EReal) (n : ℕ) : ℝ := if n < 12582912 then Real.tanh (val A n) else poly (val A n)

theorem tv_nonneg (hA : InUnit A) (n : ℕ) : 0 ≤ tv A n := by
  unfold tv; split
  · exact tanh_nonneg' (val_nonneg hA n)
  · exact poly_nonneg (val_nonneg hA n) (val_le_one hA n)
theorem tv_le_one (hA : InUnit A) (n : ℕ) : tv A n ≤ 1 := by
  unfold tv; split
  · exact tanh_le_one' _
  · exact poly_le_one (val_nonneg hA n) (val_le_one hA n)

/-- Whether the `n`-th element is at most the threshold. -/
def low (A : S16777216.Idx → EReal) (s : EReal) (n : ℕ) : Bool := decide ((val A n : EReal) ≤ s)

/-- The weight of sample `n`, its weight if its class is on the diagonal, its weight if its class is `(p, q)`, and the signed
    product of the SparseCore. -/
def wtAt (A0 A1 : S16777216.Idx → EReal) (s t : EReal) (n : ℕ) : ℝ := weight (low A0 s n) (low A1 t n) (tv A0 n) (tv A1 n)
def agAt (A0 A1 : S16777216.Idx → EReal) (s t : EReal) (n : ℕ) : ℝ := agree (low A0 s n) (low A1 t n) (tv A0 n) (tv A1 n)
def ptAt (p q : Bool) (A0 A1 : S16777216.Idx → EReal) (s t : EReal) (n : ℕ) : ℝ :=
  part p q (low A0 s n) (low A1 t n) (tv A0 n) (tv A1 n)
def sgAt (A0 A1 : S16777216.Idx → EReal) (s t : EReal) (n : ℕ) : ℝ := signed (low A0 s n) (low A1 t n) (tv A0 n) (tv A1 n)

theorem abs_sgAt (h0 : InUnit A0) (h1 : InUnit A1) (s t : EReal) (n : ℕ) : |sgAt A0 A1 s t n| = wtAt A0 A1 s t n :=
  abs_signed _ _ (tv_nonneg h0 n) (tv_le_one h0 n) (tv_nonneg h1 n) (tv_le_one h1 n)

/-! ## Sums over the samples -/

/-- A sum of real numbers is the same over the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over `a * b` numbers is the sum over `a` blocks of the sums over their `b` numbers. -/
theorem sum_blocks (f : ℕ → ℝ) (a b : ℕ) :
    ∑ n ∈ Finset.range (a * b), f n = ∑ i ∈ Finset.range a, ∑ j ∈ Finset.range b, f (b * i + j) := by
  induction a with
  | zero => simp
  | succ a ih => rw [Finset.sum_range_succ, ← ih, Nat.succ_mul, Finset.sum_range_add, Nat.mul_comm a b]

/-- The first three quarters, by the column of 128, the grid's block and the block's row. -/
theorem sum_front (f : ℕ → ℝ) :
    ∑ c ∈ Finset.range 128, ∑ t ∈ Finset.range 12, ∑ r ∈ Finset.range 8192, f (128 * (8192 * t + r) + c)
      = ∑ n ∈ Finset.range 12582912, f n := by
  have e : (12582912 : ℕ) = 12 * 8192 * 128 := by norm_num
  rw [e, sum_blocks f (12 * 8192) 128, sum_blocks (fun R => ∑ c ∈ Finset.range 128, f (128 * R + c)) 12 8192, Finset.sum_comm]
  refine Finset.sum_congr rfl fun t _ => Finset.sum_comm

/-- The last quarter, by the worker, the lane and the group of sixteen. -/
theorem sum_back (f : ℕ → ℝ) :
    ∑ w ∈ Finset.range 32, ∑ l ∈ Finset.range 16, ∑ k ∈ Finset.range 8192, f (12582912 + 131072 * w + 16 * k + l)
      = ∑ n ∈ Finset.range 4194304, f (12582912 + n) := by
  have e : (4194304 : ℕ) = 32 * (8192 * 16) := by norm_num
  rw [e, sum_blocks (fun n => f (12582912 + n)) 32 (8192 * 16)]
  refine Finset.sum_congr rfl fun w _ => ?_
  rw [sum_blocks (fun j => f (12582912 + (8192 * 16 * w + j))) 8192 16, Finset.sum_comm]
  refine Finset.sum_congr rfl fun k _ => Finset.sum_congr rfl fun l _ => congrArg f (by omega)

/-- All the samples: the first three quarters and the last. -/
theorem sum_whole (f : ℕ → ℝ) :
    ∑ n ∈ Finset.range 16777216, f n = ∑ n ∈ Finset.range 12582912, f n + ∑ n ∈ Finset.range 4194304, f (12582912 + n) := by
  have e : (16777216 : ℕ) = 12582912 + 4194304 := by norm_num
  rw [e, Finset.sum_range_add]

end Cert.Proof

end
-- ==== Proof.ScValue.lean ====
/-
  The SparseCore's two results over extended reals: the sum of all the entries of the first is the sum of the signed products
  of the last quarter of the samples, that of the second the sum of their weights.
-/
module

public import proofs.«01_k».proof.Proof.Common
public import proofs.«01_k».proof.Proof.Samples
public import Idealize.ShloMosaic.Lib.IdealHost
public import Idealize.ShloMosaic.Lib.Pipeline.Value

@[expose] public section

noncomputable section

namespace Cert.Proof

open Cert.KernelIdeal Cert.KernelIdeal.Gen Idealize.ShloMosaic

/-- A choice by a comparison's bit. -/
theorem select_bit {α : Type} (b : Bool) (x y : α) : Scalar.select (BitVec.ofBool b) x y = if b then x else y := by
  cases b <;> rfl

/-- The comparison `x ≤ y` as a bit. -/
theorem cmp_ole (x y : EReal) : Ideal.cmp .ole x y = BitVec.ofBool (decide (x ≤ y)) := rfl
/-- The comparison `x > y`. -/
theorem cmp_ogt (x y : EReal) : Ideal.cmp .ogt x y = BitVec.ofBool (!decide (x ≤ y)) := by
  show BitVec.ofBool (decide (y < x)) = _
  congr 1
  by_cases h : x ≤ y
  · simp [h]
  · simp [h, not_le.1 h]

/-- One factor of the SparseCore's product. -/
theorem factor_eq (x : ℝ) (s : EReal) :
    Scalar.select (Ideal.cmp .ole (x : EReal) s) (Ideal.ofBits .f32 0x3F800000#32) (Ideal.ofBits .f32 0x00000000#32)
        - (x : EReal) * (Ideal.ofBits .f32 0x3F7FC8DD#32
          + ((x : EReal) * x) * (Ideal.ofBits .f32 0xBEA1EC4D#32 + ((x : EReal) * x) * Ideal.ofBits .f32 0x3DA2E3E2#32))
      = (((if decide ((x : EReal) ≤ s) then 1 else 0) - poly x : ℝ) : EReal) := by
  rw [cmp_ole, select_bit, bits_one, bits_zero, bits_c0, bits_c1, bits_c2]
  unfold poly
  split <;> norm_cast

/-- One lane of the SparseCore's signed product, as the text computes it. -/
theorem pay1_apply (te tu e u : FVec Ideal S16 .f32) (j : S16.Idx) :
    k0_pay1 te tu e u j
      = (Scalar.select (Ideal.cmp .ole (e j) (te j)) (Ideal.ofBits .f32 0x3F800000#32) (Ideal.ofBits .f32 0x00000000#32)
          - e j * (Ideal.ofBits .f32 0x3F7FC8DD#32
            + (e j * e j) * (Ideal.ofBits .f32 0xBEA1EC4D#32 + (e j * e j) * Ideal.ofBits .f32 0x3DA2E3E2#32)) : EReal)
        * (Scalar.select (Ideal.cmp .ole (u j) (tu j)) (Ideal.ofBits .f32 0x3F800000#32) (Ideal.ofBits .f32 0x00000000#32)
          - u j * (Ideal.ofBits .f32 0x3F7FC8DD#32
            + (u j * u j) * (Ideal.ofBits .f32 0xBEA1EC4D#32 + (u j * u j) * Ideal.ofBits .f32 0x3DA2E3E2#32)) : EReal) := by
  unfold k0_pay1
  rw [shapeCast_self, shapeCast_self]
  rfl

variable {A0 A1 : S16777216.Idx → EReal}

/-- The number of lane `l` of group `k` of worker `w`. -/
abbrev num (w k l : ℕ) : ℕ := 12582912 + 131072 * w + 16 * k + l

theorem grp_val (A : S16777216.Idx → EReal) (hA : InUnit A) (w : Fin 32) (k : Fin 8192) (l : Fin 16) :
    grp (F := Ideal) A w k (ix1 l) = (val A (num w k l) : EReal) :=
  val_eq hA (num w k l) (by have h1 := w.isLt; have h2 := k.isLt; have h3 := l.isLt; unfold num; omega)

/-- One lane of the signed product of group `k` of worker `w` is the signed product of its sample. -/
theorem pay1_grp (h0 : InUnit A0) (h1 : InUnit A1) (te tu : FVec Ideal S16 .f32) (s t : EReal) (hs : ∀ j, te j = s)
    (ht : ∀ j, tu j = t) (w : Fin 32) (k : Fin 8192) (l : Fin 16) :
    k0_pay1 te tu (grp (F := Ideal) A0 w k) (grp (F := Ideal) A1 w k) (ix1 l) = (sgAt A0 A1 s t (num w k l) : EReal) := by
  rw [pay1_apply, grp_val A0 h0, grp_val A1 h1, hs, ht, factor_eq, factor_eq, ← EReal.coe_mul]
  have hn : ¬ num w k l < 12582912 := by unfold num; omega
  unfold sgAt signed tv low
  rw [if_neg hn, if_neg hn]

/-- The absolute value of it is the sample's weight. -/
theorem abs_pay1_grp (h0 : InUnit A0) (h1 : InUnit A1) (te tu : FVec Ideal S16 .f32) (s t : EReal) (hs : ∀ j, te j = s)
    (ht : ∀ j, tu j = t) (w : Fin 32) (k : Fin 8192) (l : Fin 16) :
    absf (k0_pay1 te tu (grp (F := Ideal) A0 w k) (grp (F := Ideal) A1 w k)) (ix1 l) = (wtAt A0 A1 s t (num w k l) : EReal) := by
  show max (k0_pay1 te tu (grp (F := Ideal) A0 w k) (grp (F := Ideal) A1 w k) (ix1 l) : EReal) (-(k0_pay1 te tu (grp (F := Ideal) A0 w k) (grp (F := Ideal) A1 w k) (ix1 l))) = _
  rw [pay1_grp h0 h1 te tu s t hs ht, ← abs_sgAt h0 h1, abs_eq_max_neg]
  rw [← EReal.coe_neg]
  exact (EReal.coe_strictMono.monotone.map_max).symm

/-- The two accumulators after `n` groups, lane by lane. -/
theorem accW_val (h0 : InUnit A0) (h1 : InUnit A1) (te tu : FVec Ideal S16 .f32) (s t : EReal) (hs : ∀ j, te j = s)
    (ht : ∀ j, tu j = t) (w : Fin 32) (l : Fin 16) (n : ℕ) (hn : n ≤ 8192) :
    (accW A0 A1 te tu w n).1 (ix1 l) = ((∑ k ∈ Finset.range n, sgAt A0 A1 s t (num w k l) : ℝ) : EReal)
      ∧ (accW A0 A1 te tu w n).2 (ix1 l) = ((∑ k ∈ Finset.range n, wtAt A0 A1 s t (num w k l) : ℝ) : EReal) := by
  induction n with
  | zero =>
    have hz : (k0_pay41 (F := Ideal)) (ix1 l) = ((0 : ℝ) : EReal) := bits_zero
    exact ⟨by rw [Finset.sum_range_zero]; exact hz, by rw [Finset.sum_range_zero]; exact hz⟩
  | succ n ih =>
    have hlt : n < 8192 := hn
    obtain ⟨i1, i2⟩ := ih (le_of_lt hlt)
    rw [accW_succ A0 A1 te tu w n hlt, Finset.sum_range_succ, Finset.sum_range_succ, EReal.coe_add, EReal.coe_add, ← i1, ← i2,
      ← pay1_grp h0 h1 te tu s t hs ht w ⟨n, hlt⟩ l, ← abs_pay1_grp h0 h1 te tu s t hs ht w ⟨n, hlt⟩ l]
    exact ⟨rfl, rfl⟩

/-- The host's sum of a whole array from zero. -/
theorem host_sum {s t : Shape} {axes : List (Fin s.rank)} (x : FVec Ideal s .f32) (h : s.ReducesTo axes t)
    (hu : 0 < S_.numel) (ht : ∀ b, t.size b = 1) (j : t.Idx) :
    Host.reduceAdd x (constant S_ .f32 0x00000000#32) h hu j = (∑ i : s.Idx, x i : EReal) := by
  rw [ValueIdx.hostReduceAdd_apply, Ideal.hostReduceAdd_total h ht]
  show Ideal.ofBits .f32 0x00000000#32 + _ = _
  rw [bits_zero, EReal.coe_zero, zero_add]

/-- A sum over the entries of a 32 by 16 array of real numbers. -/
theorem sum_lanes (x : S32x16.Idx → EReal) (g : ℕ → ℕ → ℝ) (h : ∀ (w : Fin 32) (l : Fin 16), x (ix2 w l) = (g w l : EReal)) :
    ∑ i : S32x16.Idx, x i = ((∑ w ∈ Finset.range 32, ∑ l ∈ Finset.range 16, g w l : ℝ) : EReal) := by
  rw [coe_sum, Finset.sum_range, sum_idx2]
  refine Finset.sum_congr rfl fun w _ => ?_
  rw [coe_sum, Finset.sum_range]
  exact Finset.sum_congr rfl fun l _ => h w l

/-- All the entries of the first result together. -/
theorem sum_outQ (h0 : InUnit A0) (h1 : InUnit A1) (te tu : FVec Ideal S16 .f32) (s t : EReal) (hs : ∀ j, te j = s)
    (ht : ∀ j, tu j = t) :
    ∑ i : S32x16.Idx, (outQ A0 A1 te tu i : EReal) = ((∑ n ∈ Finset.range 4194304, sgAt A0 A1 s t (12582912 + n) : ℝ) : EReal) := by
  rw [← sum_back (sgAt A0 A1 s t)]
  exact sum_lanes _ _ fun w l => (accW_val h0 h1 te tu s t hs ht w l 8192 le_rfl).1
/-- All the entries of the second. -/
theorem sum_outD (h0 : InUnit A0) (h1 : InUnit A1) (te tu : FVec Ideal S16 .f32) (s t : EReal) (hs : ∀ j, te j = s)
    (ht : ∀ j, tu j = t) :
    ∑ i : S32x16.Idx, (outD A0 A1 te tu i : EReal) = ((∑ n ∈ Finset.range 4194304, wtAt A0 A1 s t (12582912 + n) : ℝ) : EReal) := by
  rw [← sum_back (wtAt A0 A1 s t)]
  exact sum_lanes _ _ fun w l => (accW_val h0 h1 te tu s t hs ht w l 8192 le_rfl).2

end Cert.Proof

end
-- ==== Proof.TcValue.lean ====
/-
  The TensorCore's two results over extended reals: the sum of the 128 entries of the numerator is the sum of the weights on
  the diagonal over the first three quarters of the samples, that of the denominator the sum of all their weights.
-/
module

public import proofs.«01_k».proof.Proof.Region
public import proofs.«01_k».proof.Proof.ScValue

@[expose] public section

noncomputable section

namespace Cert.Proof

open Cert.KernelIdeal Cert.KernelIdeal.Gen Idealize.ShloMosaic

variable {A0 A1 : S16777216.Idx → EReal}

/-- The number of column `c` of row `r` of the grid's block `b`. -/
abbrev numT (b r c : ℕ) : ℕ := 128 * (8192 * b + r) + c

/-- The samples laid out in rows of 128. -/
abbrev rows (A : S16777216.Idx → EReal) : S131072x128.Idx → EReal := shapeCast S131072x128 A shapeCasts_S16777216_S131072x128

theorem blkAt_val (A : S16777216.Idx → EReal) (hA : InUnit A) (b : Fin 12) (r : Fin 8192) (c : Fin 128) :
    blkAt (F := Ideal) (rows A) b (ix2 r c) = (val A (numT b r c) : EReal) := by
  have hb := b.isLt
  have hr := r.isLt
  have hc := c.isLt
  have hn : numT b r c < 16777216 := by unfold numT; omega
  rw [← val_eq hA (numT b r c) hn]
  refine shapeCast_apply _ _ _ _ ?_
  rw [Shape.rowMajor_val_one, Shape.rowMajor_val_two]
  show 128 * (8192 * b.val + r.val) + c.val = (8192 * b.val + r.val) * 128 + c.val
  omega

theorem numT_front (b : Fin 12) (r : Fin 8192) (c : Fin 128) : numT b r c < 12582912 := by
  have hb := b.isLt
  have hr := r.isLt
  have hc := c.isLt
  unfold numT; omega

/-- One factor of the TensorCore's product. -/
theorem tanh_factor (x : ℝ) (s : EReal) :
    Scalar.select (Ideal.cmp .ole (x : EReal) s) (Ideal.ofBits .f32 0x3F800000#32 - Ideal.tanh (x : EReal)) (Ideal.tanh (x : EReal))
      = (((if decide ((x : EReal) ≤ s) then 1 - Real.tanh x else Real.tanh x) : ℝ) : EReal) := by
  rw [cmp_ole, select_bit, bits_one, Ideal.tanh_coe]
  split <;> norm_cast

/-- An entry of the TensorCore's product, as the text computes it. -/
theorem pay5_apply (e u : FVec Ideal S8192x128 .f32) (s t : EReal) (j : S8192x128.Idx) :
    k1_pay5 (F := Ideal) e u s t j
      = (Scalar.select (Ideal.cmp .ole (e j) s) (Ideal.ofBits .f32 0x3F800000#32 - Ideal.tanh (e j)) (Ideal.tanh (e j)) : EReal)
        * Scalar.select (Ideal.cmp .ole (u j) t) (Ideal.ofBits .f32 0x3F800000#32 - Ideal.tanh (u j)) (Ideal.tanh (u j)) := by
  unfold k1_pay5 k1_pay3 k1_pay4 k1_pay1 k1_pay2
  rw [shapeCast_self, shapeCast_self]
  rfl

/-- It is the sample's weight. -/
theorem pay5_blk (h0 : InUnit A0) (h1 : InUnit A1) (s t : EReal) (b : Fin 12) (r : Fin 8192) (c : Fin 128) :
    k1_pay5 (F := Ideal) (blkAt (F := Ideal) (rows A0) b) (blkAt (F := Ideal) (rows A1) b) s t (ix2 r c) = (wtAt A0 A1 s t (numT b r c) : EReal) := by
  rw [pay5_apply, blkAt_val A0 h0, blkAt_val A1 h1, tanh_factor, tanh_factor, ← EReal.coe_mul]
  unfold wtAt weight tv low
  rw [if_pos (numT_front b r c), if_pos (numT_front b r c)]

/-- A column's sum down the rows of a block. -/
theorem col_sum (x : FVec Ideal S8192x128 .f32) (g : ℕ → ℝ) (c : Fin 128) (h : ∀ r : Fin 8192, x (ix2 r c) = (g r : EReal)) (o : Fin 1) :
    shapeCast S1x128 (multiReduction .add [0] S128 x 0x00000000#32 reduces_S8192x128_S128 (.inl rfl) rfl) shapeCasts_S128_S1x128 (ix2 o c)
      = ((∑ r ∈ Finset.range 8192, g r : ℝ) : EReal) := by
  rw [shapeCast_apply _ _ (ix2 o c) (ix1 c) (by
    rw [Shape.rowMajor_val_one, Shape.rowMajor_val_two]
    have := o.isLt
    show c.val = o.val * 128 + c.val
    omega)]
  refine (Ideal.multiReduction_add_single x _ _ _ _ (ix1 c)).trans ?_
  rw [coe_sum, Finset.sum_range]
  refine Finset.sum_congr rfl fun r _ => ?_
  rw [← h r]
  refine congrArg x (funext fun a => Fin.ext ?_)
  fin_cases a <;> rfl

/-- The bit by which the TensorCore keeps a sample: set exactly where the two comparisons agree. -/
theorem keep_bit (a b : Bool) : IntOp.xori (IntOp.xori (BitVec.ofBool a) (BitVec.ofBool b)) 1#1 = BitVec.ofBool (decide (a = b)) := by
  cases a <;> cases b <;> rfl

/-- A block's column sum of the weights. -/
theorem pay6_val (h0 : InUnit A0) (h1 : InUnit A1) (s t : EReal) (b : Fin 12) (o : Fin 1) (c : Fin 128) :
    k1_pay6 (F := Ideal) (blkAt (F := Ideal) (rows A0) b) (blkAt (F := Ideal) (rows A1) b) s t (ix2 o c)
      = ((∑ r ∈ Finset.range 8192, wtAt A0 A1 s t (numT b r c) : ℝ) : EReal) :=
  col_sum _ (fun r => wtAt A0 A1 s t (numT b r c)) c (fun r => pay5_blk h0 h1 s t b r c) o

/-- A block's column sum of the weights on the diagonal. -/
theorem pay7_val (h0 : InUnit A0) (h1 : InUnit A1) (s t : EReal) (b : Fin 12) (o : Fin 1) (c : Fin 128) :
    k1_pay7 (F := Ideal) (blkAt (F := Ideal) (rows A0) b) (blkAt (F := Ideal) (rows A1) b) s t (ix2 o c)
      = ((∑ r ∈ Finset.range 8192, agAt A0 A1 s t (numT b r c) : ℝ) : EReal) := by
  refine col_sum _ (fun r => agAt A0 A1 s t (numT b r c)) c (fun r => ?_) o
  have e3 : k1_pay3 (F := Ideal) (blkAt (F := Ideal) (rows A0) b) s (ix2 r c) = BitVec.ofBool (low A0 s (numT b r c)) := by
    unfold k1_pay3 k1_pay1
    rw [shapeCast_self]
    show Ideal.cmp .ole (blkAt (F := Ideal) (rows A0) b (ix2 r c)) s = _
    rw [blkAt_val A0 h0]; rfl
  have e4 : k1_pay4 (F := Ideal) (blkAt (F := Ideal) (rows A1) b) t (ix2 r c) = BitVec.ofBool (low A1 t (numT b r c)) := by
    unfold k1_pay4 k1_pay2
    rw [shapeCast_self]
    show Ideal.cmp .ole (blkAt (F := Ideal) (rows A1) b (ix2 r c)) t = _
    rw [blkAt_val A1 h1]; rfl
  show Scalar.select (IntOp.xori (IntOp.xori (k1_pay3 (F := Ideal) (blkAt (F := Ideal) (rows A0) b) s (ix2 r c))
      (k1_pay4 (F := Ideal) (blkAt (F := Ideal) (rows A1) b) t (ix2 r c))) 1#1)
    (k1_pay5 (F := Ideal) (blkAt (F := Ideal) (rows A0) b) (blkAt (F := Ideal) (rows A1) b) s t (ix2 r c)) (Ideal.ofBits .f32 0x00000000#32) = _
  rw [e3, e4, keep_bit, select_bit, pay5_blk h0 h1, bits_zero]
  unfold agAt agree wtAt
  simp only [decide_eq_true_eq]
  split <;> rfl

/-- The running column sums after the blocks up to `n`. -/
theorem tc_val (h0 : InUnit A0) (h1 : InUnit A1) (s t : EReal) (o : Fin 1) (c : Fin 128) (n : ℕ) (hn : n < 12) :
    tcNum (F := Ideal) (rows A0) (rows A1) s t n (ix2 o c)
        = ((∑ b ∈ Finset.range (n + 1), ∑ r ∈ Finset.range 8192, agAt A0 A1 s t (numT b r c) : ℝ) : EReal)
      ∧ tcDen (F := Ideal) (rows A0) (rows A1) s t n (ix2 o c)
        = ((∑ b ∈ Finset.range (n + 1), ∑ r ∈ Finset.range 8192, wtAt A0 A1 s t (numT b r c) : ℝ) : EReal) := by
  induction n with
  | zero =>
    rw [Finset.sum_range_one, Finset.sum_range_one]
    exact ⟨pay7_val h0 h1 s t 0 o c, pay6_val h0 h1 s t 0 o c⟩
  | succ n ih =>
    obtain ⟨i1, i2⟩ := ih (by omega)
    have p7 := pay7_val h0 h1 s t ⟨n + 1, hn⟩ o c
    have p6 := pay6_val h0 h1 s t ⟨n + 1, hn⟩ o c
    rw [tcNum_succ _ _ _ _ n hn, tcDen_succ _ _ _ _ n hn, Finset.sum_range_succ, Finset.sum_range_succ _ (n + 1), EReal.coe_add,
      EReal.coe_add, ← i1, ← i2]
    unfold k1_pay8 k1_pay9
    rw [shapeCast_self, shapeCast_self]
    exact ⟨congrArg (_ + ·) p7, congrArg (_ + ·) p6⟩

/-- A sum over the entries of a row of 128 real numbers. -/
theorem sum_row (x : S1x128.Idx → EReal) (g : ℕ → ℝ) (h : ∀ (o : Fin 1) (c : Fin 128), x (ix2 o c) = (g c : EReal)) :
    ∑ i : S1x128.Idx, x i = ((∑ c ∈ Finset.range 128, g c : ℝ) : EReal) := by
  rw [coe_sum, Finset.sum_range, sum_idx2, Fin.sum_univ_one]
  exact Finset.sum_congr rfl fun c _ => h 0 c

/-- All the entries of the numerator together. -/
theorem sum_tcNum (h0 : InUnit A0) (h1 : InUnit A1) (s t : EReal) :
    ∑ i : S1x128.Idx, (tcNum (F := Ideal) (rows A0) (rows A1) s t 11 i : EReal)
      = ((∑ n ∈ Finset.range 12582912, agAt A0 A1 s t n : ℝ) : EReal) := by
  rw [← sum_front (agAt A0 A1 s t)]
  exact sum_row _ _ fun o c => (tc_val h0 h1 s t o c 11 (by omega)).1
/-- All the entries of the denominator. -/
theorem sum_tcDen (h0 : InUnit A0) (h1 : InUnit A1) (s t : EReal) :
    ∑ i : S1x128.Idx, (tcDen (F := Ideal) (rows A0) (rows A1) s t 11 i : EReal)
      = ((∑ n ∈ Finset.range 12582912, wtAt A0 A1 s t n : ℝ) : EReal) := by
  rw [← sum_front (wtAt A0 A1 s t)]
  exact sum_row _ _ fun o c => (tc_val h0 h1 s t o c 11 (by omega)).2

end Cert.Proof

end
-- ==== Proof.RefValue.lean ====
/-
  The reference's result over extended reals: each of its four sums is the sum of the weights of one class of samples.
-/
module

public import proofs.«01_k».proof.Proof.Gen.ReferenceIdeal.Run
public import proofs.«01_k».proof.Proof.ScValue

@[expose] public section

noncomputable section

namespace Cert.Proof

open Cert.ReferenceIdeal Cert.ReferenceIdeal.Gen Cert.ReferenceIdeal.Value Idealize.ShloMosaic

/-! ## The parts of the reference's text -/

/-- What the reference takes for the tangents of an array of samples. -/
def refTanh (A : FVec Ideal S16777216 .f32) : FVec Ideal S16777216 .f32 :=
  select (cmpi .slt (iotaInDim S16777216 32 0) (broadcastInDim S16777216 ![] bcast_S_S16777216 (constantI S_ 32 12582912#32))) (Host.tanh A)
    (mulf A (addf (broadcastInDim S16777216 ![] bcast_S_S16777216 (constant S_ .f32 0x3F7FC8DD#32))
      (mulf (mulf A A) (addf (broadcastInDim S16777216 ![] bcast_S_S16777216 (constant S_ .f32 0xBEA1EC4D#32))
        (mulf (mulf A A) (broadcastInDim S16777216 ![] bcast_S_S16777216 (constant S_ .f32 0x3DA2E3E2#32)))))))

/-- One minus an array. -/
def refOneMinus (x : FVec Ideal S16777216 .f32) : FVec Ideal S16777216 .f32 :=
  subf (broadcastInDim S16777216 ![] bcast_S_S16777216 (constant S_ .f32 0x3F800000#32)) x

/-- The comparison of an array with a threshold. -/
def refCmp (p : CmpFPredicate) (A : FVec Ideal S16777216 .f32) (s : FVec Ideal S1 .f32) : IVec S16777216 1 :=
  cmpf p A (broadcastInDim S16777216 ![0] bcast_S1_S16777216_0 s)

/-- A class's terms: one where both comparisons hold, times the two factors. -/
def refTerm (p q : IVec S16777216 1) (x y : FVec Ideal S16777216 .f32) : FVec Ideal S16777216 .f32 :=
  mulf (mulf (uitofp .f32 (andi p q)) x) y

/-- A sum over the whole array. -/
def refSum (x : FVec Ideal S16777216 .f32) : FVec Ideal S_ .f32 :=
  Host.reduceAdd x (constant S_ .f32 0x00000000#32) reducesTo_S16777216_S_d0 h_S_

/-- The result from the four sums. -/
def refOut (lc lu hc hu : FVec Ideal S_ .f32) : FVec Ideal S_ .f32 :=
  mulf (constant S_ .f32 0xBF800000#32) (Host.log (addf (Host.divf (addf lc hu)
    (addf (addf (addf (addf lc lu) hc) hu) (constant S_ .f32 0x2EDBE6FF#32))) (constant S_ .f32 0x2EDBE6FF#32)))

theorem res_eq (m : (ℓ : Loc nD τ sig) → Buf (Elt Ideal) ℓ) (c : Dev nD) (A0 A1 : FVec Ideal S16777216 .f32) (s t : FVec Ideal S1 .f32)
    (h0 : m ((c.tc : Thread nD τ).loc main_arg0) = A0) (h1 : m ((c.tc : Thread nD τ).loc main_arg1) = A1)
    (h2 : m ((c.tc : Thread nD τ).loc main_arg2) = s) (h3 : m ((c.tc : Thread nD τ).loc main_arg3) = t) :
    res_main_v71 m c = refOut
      (refSum (refTerm (refCmp .ole A0 s) (refCmp .ole A1 t) (refOneMinus (refTanh A0)) (refOneMinus (refTanh A1))))
      (refSum (refTerm (refCmp .ole A0 s) (refCmp .ogt A1 t) (refOneMinus (refTanh A0)) (refTanh A1)))
      (refSum (refTerm (refCmp .ogt A0 s) (refCmp .ole A1 t) (refTanh A0) (refOneMinus (refTanh A1))))
      (refSum (refTerm (refCmp .ogt A0 s) (refCmp .ogt A1 t) (refTanh A0) (refTanh A1))) := by
  subst h0 h1 h2 h3
  rfl

/-! ## Each at an index -/

variable {A A0 A1 : Cert.KernelIdeal.S16777216.Idx → EReal}

/-- The position's word compares with the cut as the position does. -/
theorem front_bit (n : ℕ) (h : n < 16777216) : IntOp.cmpi .slt (BitVec.ofNat 32 n) 12582912#32 = BitVec.ofBool (decide (n < 12582912)) := by
  show BitVec.ofBool (BitVec.slt (BitVec.ofNat 32 n) 12582912#32) = _
  congr 1
  have e : (BitVec.ofNat 32 n).toNat = n := by rw [BitVec.toNat_ofNat]; exact Nat.mod_eq_of_lt (by omega)
  have e1 : (BitVec.ofNat 32 n).toInt = n := by rw [BitVec.toInt_eq_toNat_of_lt (by rw [e]; omega), e]
  have e2 : (12582912#32).toInt = 12582912 := by decide
  rw [BitVec.slt, e1, e2]
  exact decide_eq_decide.2 (by omega)

theorem refTanh_val (hA : InUnit A) (n : ℕ) (h : n < 16777216) : refTanh A (ix1 ⟨n, h⟩) = (tv A n : EReal) := by
  have e : refTanh A (ix1 ⟨n, h⟩) = Scalar.select (IntOp.cmpi .slt (BitVec.ofNat 32 n) 12582912#32) (Ideal.tanh (A (ix1 ⟨n, h⟩)))
      (A (ix1 ⟨n, h⟩) * (Ideal.ofBits .f32 0x3F7FC8DD#32 + (A (ix1 ⟨n, h⟩) * A (ix1 ⟨n, h⟩)) * (Ideal.ofBits .f32 0xBEA1EC4D#32
        + (A (ix1 ⟨n, h⟩) * A (ix1 ⟨n, h⟩)) * Ideal.ofBits .f32 0x3DA2E3E2#32)) : EReal) := rfl
  rw [e, front_bit n h, select_bit, val_eq hA, Ideal.tanh_coe, bits_c0, bits_c1, bits_c2]
  unfold tv poly
  simp only [decide_eq_true_eq]
  split <;> norm_cast

theorem refOneMinus_val (x : FVec Ideal S16777216 .f32) (i : S16777216.Idx) (r : ℝ) (h : x i = (r : EReal)) :
    refOneMinus x i = ((1 - r : ℝ) : EReal) := by
  have e : refOneMinus x i = (Ideal.ofBits .f32 0x3F800000#32 - x i : EReal) := rfl
  rw [e, bits_one, h]; norm_cast

theorem thr_apply (s : FVec Ideal S1 .f32) (i : S16777216.Idx) :
    broadcastInDim S16777216 ![0] bcast_S1_S16777216_0 s i = s (ix1 0) :=
  congrArg s (funext fun a => Fin.ext (by fin_cases a; rfl))

theorem refCmp_ole (hA : InUnit A) (s : FVec Ideal S1 .f32) (n : ℕ) (h : n < 16777216) :
    refCmp .ole A s (ix1 ⟨n, h⟩) = BitVec.ofBool (low A (s (ix1 0)) n) := by
  show Ideal.cmp .ole (A (ix1 ⟨n, h⟩)) (broadcastInDim S16777216 ![0] bcast_S1_S16777216_0 s (ix1 ⟨n, h⟩)) = _
  rw [thr_apply, cmp_ole, val_eq hA]; rfl
theorem refCmp_ogt (hA : InUnit A) (s : FVec Ideal S1 .f32) (n : ℕ) (h : n < 16777216) :
    refCmp .ogt A s (ix1 ⟨n, h⟩) = BitVec.ofBool (!low A (s (ix1 0)) n) := by
  show Ideal.cmp .ogt (A (ix1 ⟨n, h⟩)) (broadcastInDim S16777216 ![0] bcast_S1_S16777216_0 s (ix1 ⟨n, h⟩)) = _
  rw [thr_apply, cmp_ogt, val_eq hA]; rfl

/-- A term where the two comparisons are the bits `a` and `b` and the factors the real numbers `x` and `y`. -/
theorem refTerm_val (p q : IVec S16777216 1) (x y : FVec Ideal S16777216 .f32) (i : S16777216.Idx) (a b : Bool) (u v : ℝ)
    (hp : p i = BitVec.ofBool a) (hq : q i = BitVec.ofBool b) (hx : x i = (u : EReal)) (hy : y i = (v : EReal)) :
    refTerm p q x y i = ((if a = true ∧ b = true then u * v else 0 : ℝ) : EReal) := by
  have e : refTerm p q x y i = ((((p i &&& q i).toNat : ℝ) : EReal) * x i * y i : EReal) := rfl
  rw [e, hp, hq, hx, hy]
  cases a <;> cases b <;> simp

/-- A sum of real numbers over the whole array. -/
theorem refSum_val (x : FVec Ideal S16777216 .f32) (g : ℕ → ℝ) (h : ∀ (n : ℕ) (hn : n < 16777216), x (ix1 ⟨n, hn⟩) = (g n : EReal))
    (j : S_.Idx) : refSum x j = ((∑ n ∈ Finset.range 16777216, g n : ℝ) : EReal) := by
  unfold refSum
  rw [show Host.reduceAdd x (constant S_ .f32 0x00000000#32) reducesTo_S16777216_S_d0 h_S_ j = (∑ i : S16777216.Idx, x i : EReal) from
    host_sum x _ _ (fun b => b.elim0) j, coe_sum, Finset.sum_range, sum_idx1]
  exact Finset.sum_congr rfl fun n _ => h n.val n.isLt

/-! ## The four sums, for any arrays of real numbers in the tangents' place -/

variable (h0 : InUnit A0) (h1 : InUnit A1) (s t : FVec Ideal S1 .f32) (T0 T1 : FVec Ideal S16777216 .f32) (τ0 τ1 : ℕ → ℝ)
  (hT0 : ∀ (n : ℕ) (hn : n < 16777216), T0 (ix1 ⟨n, hn⟩) = (τ0 n : EReal))
  (hT1 : ∀ (n : ℕ) (hn : n < 16777216), T1 (ix1 ⟨n, hn⟩) = (τ1 n : EReal)) (j : S_.Idx)
include h0 h1 hT0 hT1

/-- The samples of low error that are certain. -/
theorem sum_lc : refSum (refTerm (refCmp .ole A0 s) (refCmp .ole A1 t) (refOneMinus T0) (refOneMinus T1)) j
    = ((∑ n ∈ Finset.range 16777216, part true true (low A0 (s (ix1 0)) n) (low A1 (t (ix1 0)) n) (τ0 n) (τ1 n) : ℝ) : EReal) := by
  refine refSum_val _ _ (fun n hn => ?_) j
  rw [refTerm_val _ _ _ _ _ _ _ _ _ (refCmp_ole h0 s n hn) (refCmp_ole h1 t n hn) (refOneMinus_val _ _ _ (hT0 n hn)) (refOneMinus_val _ _ _ (hT1 n hn))]
  unfold part weight
  generalize low A0 (s (ix1 0)) n = a
  generalize low A1 (t (ix1 0)) n = b
  cases a <;> cases b <;> rfl

/-- Of low error and uncertain. -/
theorem sum_lu : refSum (refTerm (refCmp .ole A0 s) (refCmp .ogt A1 t) (refOneMinus T0) T1) j
    = ((∑ n ∈ Finset.range 16777216, part true false (low A0 (s (ix1 0)) n) (low A1 (t (ix1 0)) n) (τ0 n) (τ1 n) : ℝ) : EReal) := by
  refine refSum_val _ _ (fun n hn => ?_) j
  rw [refTerm_val _ _ _ _ _ _ _ _ _ (refCmp_ole h0 s n hn) (refCmp_ogt h1 t n hn) (refOneMinus_val _ _ _ (hT0 n hn)) (hT1 n hn)]
  unfold part weight
  generalize low A0 (s (ix1 0)) n = a
  generalize low A1 (t (ix1 0)) n = b
  cases a <;> cases b <;> rfl

/-- Of high error and certain. -/
theorem sum_hc : refSum (refTerm (refCmp .ogt A0 s) (refCmp .ole A1 t) T0 (refOneMinus T1)) j
    = ((∑ n ∈ Finset.range 16777216, part false true (low A0 (s (ix1 0)) n) (low A1 (t (ix1 0)) n) (τ0 n) (τ1 n) : ℝ) : EReal) := by
  refine refSum_val _ _ (fun n hn => ?_) j
  rw [refTerm_val _ _ _ _ _ _ _ _ _ (refCmp_ogt h0 s n hn) (refCmp_ole h1 t n hn) (hT0 n hn) (refOneMinus_val _ _ _ (hT1 n hn))]
  unfold part weight
  generalize low A0 (s (ix1 0)) n = a
  generalize low A1 (t (ix1 0)) n = b
  cases a <;> cases b <;> rfl

/-- Of high error and uncertain. -/
theorem sum_hu : refSum (refTerm (refCmp .ogt A0 s) (refCmp .ogt A1 t) T0 T1) j
    = ((∑ n ∈ Finset.range 16777216, part false false (low A0 (s (ix1 0)) n) (low A1 (t (ix1 0)) n) (τ0 n) (τ1 n) : ℝ) : EReal) := by
  refine refSum_val _ _ (fun n hn => ?_) j
  rw [refTerm_val _ _ _ _ _ _ _ _ _ (refCmp_ogt h0 s n hn) (refCmp_ogt h1 t n hn) (hT0 n hn) (hT1 n hn)]
  unfold part weight
  generalize low A0 (s (ix1 0)) n = a
  generalize low A1 (t (ix1 0)) n = b
  cases a <;> cases b <;> rfl

end Cert.Proof

end
-- ==== Proof.Algebraic.lean ====
/-
  The value claim over extended reals: where every error and every uncertainty lies between zero and one, the kernel and the
  reference end with the same result.
-/
module

public import proofs.«01_k».proof.Proof.Frames
public import proofs.«01_k».proof.Proof.TcValue
public import proofs.«01_k».proof.Proof.RefValue

@[expose] public section

noncomputable section

namespace Cert.Proof

open Idealize.ShloMosaic Idealize.SL.Sem
open Cert.KernelIdeal (S_ S1 S16 S16777216 S32x16 S1x128)

/-! ## The numerator and the denominator -/

section Values

variable {A0 A1 : S16777216.Idx → EReal} (h0 : InUnit A0) (h1 : InUnit A1) (s t : EReal)
include h0 h1

/-- The four classes' sums together are the sum of all the weights: the kernel's two denominators. -/
theorem den_real :
    ∑ n ∈ Finset.range 16777216, ptAt true true A0 A1 s t n + ∑ n ∈ Finset.range 16777216, ptAt true false A0 A1 s t n
        + ∑ n ∈ Finset.range 16777216, ptAt false true A0 A1 s t n + ∑ n ∈ Finset.range 16777216, ptAt false false A0 A1 s t n
      = ∑ n ∈ Finset.range 4194304, wtAt A0 A1 s t (12582912 + n) + ∑ n ∈ Finset.range 12582912, wtAt A0 A1 s t n := by
  rw [add_comm (∑ n ∈ Finset.range 4194304, _), ← sum_whole, ← Finset.sum_add_distrib, ← Finset.sum_add_distrib,
    ← Finset.sum_add_distrib]
  exact Finset.sum_congr rfl fun n _ => part_all _ _ _ _

/-- The two diagonal classes' sums are the kernel's numerator: half of the SparseCore's two sums, and the TensorCore's. -/
theorem num_real :
    ∑ n ∈ Finset.range 16777216, ptAt true true A0 A1 s t n + ∑ n ∈ Finset.range 16777216, ptAt false false A0 A1 s t n
      = (∑ n ∈ Finset.range 4194304, wtAt A0 A1 s t (12582912 + n) + ∑ n ∈ Finset.range 4194304, sgAt A0 A1 s t (12582912 + n)) * (1 / 2)
        + ∑ n ∈ Finset.range 12582912, agAt A0 A1 s t n := by
  have e : (∑ n ∈ Finset.range 4194304, wtAt A0 A1 s t (12582912 + n) + ∑ n ∈ Finset.range 4194304, sgAt A0 A1 s t (12582912 + n)) * (1 / 2)
      = ∑ n ∈ Finset.range 4194304, agAt A0 A1 s t (12582912 + n) := by
    rw [← Finset.sum_add_distrib, Finset.sum_mul]
    exact Finset.sum_congr rfl fun n _ => weight_add_signed _ _ _ _
  rw [e, add_comm (∑ n ∈ Finset.range 4194304, _), ← sum_whole, ← Finset.sum_add_distrib]
  exact Finset.sum_congr rfl fun n _ => part_diag _ _ _ _

end Values

open Cert.KernelIdeal.Gen (reducesTo_S32x16_S_d0_1 reducesTo_S1x128_S_d0_1)

/-- The kernel's last operations and the reference's give one result where the kernel's four sums and the reference's are real
    numbers with the same numerator and the same denominator. -/
theorem out_eq (q dd : S32x16.Idx → Ideal .f32) (num den : S1x128.Idx → Ideal .f32) (lc lu hc hu : FVec Ideal S_ .f32)
    (sq sd sn sdn rlc rlu rhc rhu : ℝ) (hQ : ∀ j, Host.reduceAdd q (constant S_ .f32 0x00000000#32) reducesTo_S32x16_S_d0_1 Cert.KernelIdeal.Gen.h_S_ j = (sq : EReal))
    (hD : ∀ j, Host.reduceAdd dd (constant S_ .f32 0x00000000#32) reducesTo_S32x16_S_d0_1 Cert.KernelIdeal.Gen.h_S_ j = (sd : EReal))
    (hN : ∀ j, Host.reduceAdd num (constant S_ .f32 0x00000000#32) reducesTo_S1x128_S_d0_1 Cert.KernelIdeal.Gen.h_S_ j = (sn : EReal))
    (hT : ∀ j, Host.reduceAdd den (constant S_ .f32 0x00000000#32) reducesTo_S1x128_S_d0_1 Cert.KernelIdeal.Gen.h_S_ j = (sdn : EReal))
    (hlc : ∀ j, lc j = (rlc : EReal)) (hlu : ∀ j, lu j = (rlu : EReal)) (hhc : ∀ j, hc j = (rhc : EReal)) (hhu : ∀ j, hu j = (rhu : EReal))
    (en : rlc + rhu = (sd + sq) * (1 / 2) + sn) (ed : rlc + rlu + rhc + rhu = sd + sdn) :
    hostOut (F := Ideal) q dd num den = refOut lc lu hc hu := by
  unfold hostOut refOut
  dsimp only
  generalize Host.reduceAdd q (constant S_ .f32 0x00000000#32) reducesTo_S32x16_S_d0_1 Cert.KernelIdeal.Gen.h_S_ = xq at hQ ⊢
  generalize Host.reduceAdd dd (constant S_ .f32 0x00000000#32) reducesTo_S32x16_S_d0_1 Cert.KernelIdeal.Gen.h_S_ = xd at hD ⊢
  generalize Host.reduceAdd num (constant S_ .f32 0x00000000#32) reducesTo_S1x128_S_d0_1 Cert.KernelIdeal.Gen.h_S_ = xn at hN ⊢
  generalize Host.reduceAdd den (constant S_ .f32 0x00000000#32) reducesTo_S1x128_S_d0_1 Cert.KernelIdeal.Gen.h_S_ = xt at hT ⊢
  have en' : (addf (mulf (addf xd xq) (constant S_ .f32 0x3F000000#32)) xn : FVec Ideal S_ .f32) = addf lc hu := by
    funext j
    show ((xd j + xq j) * Ideal.ofBits .f32 0x3F000000#32 + xn j : EReal) = lc j + hu j
    rw [hD, hQ, hN, hlc, hhu, bits_half, ← EReal.coe_add, ← EReal.coe_mul, ← EReal.coe_add, ← EReal.coe_add, en]
  have ed' : (addf xd xt : FVec Ideal S_ .f32) = addf (addf (addf lc lu) hc) hu := by
    funext j
    show (xd j + xt j : EReal) = lc j + lu j + hc j + hu j
    rw [hD, hT, hlc, hlu, hhc, hhu, ← EReal.coe_add, ← EReal.coe_add, ← EReal.coe_add, ← EReal.coe_add, ed]
  rw [en', ed']

/-- The two results, from the samples and the thresholds. -/
theorem value_eq {A0 A1 : S16777216.Idx → EReal} (h0 : InUnit A0) (h1 : InUnit A1) (s t : FVec Ideal S1 .f32)
    (te tu : FVec Ideal S16 .f32) (hs : ∀ j, te j = s (ix1 0)) (ht : ∀ j, tu j = t (ix1 0)) :
    hostOut (F := Ideal) (outQ A0 A1 te tu) (outD A0 A1 te tu) (tcNum (rows A0) (rows A1) (s (ix1 0)) (t (ix1 0)) 11)
        (tcDen (rows A0) (rows A1) (s (ix1 0)) (t (ix1 0)) 11)
      = refOut
          (refSum (refTerm (refCmp .ole A0 s) (refCmp .ole A1 t) (refOneMinus (refTanh A0)) (refOneMinus (refTanh A1))))
          (refSum (refTerm (refCmp .ole A0 s) (refCmp .ogt A1 t) (refOneMinus (refTanh A0)) (refTanh A1)))
          (refSum (refTerm (refCmp .ogt A0 s) (refCmp .ole A1 t) (refTanh A0) (refOneMinus (refTanh A1))))
          (refSum (refTerm (refCmp .ogt A0 s) (refCmp .ogt A1 t) (refTanh A0) (refTanh A1))) :=
  out_eq _ _ _ _ _ _ _ _ _ _ _ _ _ _ _ _
    (fun j => (host_sum _ _ _ (fun b => b.elim0) j).trans (sum_outQ h0 h1 te tu _ _ hs ht))
    (fun j => (host_sum _ _ _ (fun b => b.elim0) j).trans (sum_outD h0 h1 te tu _ _ hs ht))
    (fun j => (host_sum _ _ _ (fun b => b.elim0) j).trans (sum_tcNum h0 h1 _ _))
    (fun j => (host_sum _ _ _ (fun b => b.elim0) j).trans (sum_tcDen h0 h1 _ _))
    (sum_lc h0 h1 s t _ _ _ _ (refTanh_val h0) (refTanh_val h1)) (sum_lu h0 h1 s t _ _ _ _ (refTanh_val h0) (refTanh_val h1)) (sum_hc h0 h1 s t _ _ _ _ (refTanh_val h0) (refTanh_val h1)) (sum_hu h0 h1 s t _ _ _ _ (refTanh_val h0) (refTanh_val h1)) (num_real h0 h1 _ _) (den_real h0 h1 _ _)

/-! ## The precondition -/

/-- The bitwise and of two one-bit words is one exactly where both are. -/
theorem and_bit (x y : BitVec 1) : IntOp.andi x y = 1#1 ↔ x = 1#1 ∧ y = 1#1 := by
  revert x y; decide

theorem bit_true (b : Bool) : BitVec.ofBool b = 1#1 ↔ b = true := by cases b <;> decide

/-- Where the precondition holds, every error and every uncertainty lies between zero and one. -/
theorem unit_of_pre (A0 A1 : S16777216.Idx → EReal) (s t : FVec Ideal S1 .f32)
    (h : Cert.Pre_unit_range.fn (F := Ideal) A0 A1 s t = fun _ => 1#1) : InUnit A0 ∧ InUnit A1 := by
  have key : ∀ i, (0 ≤ A0 i ∧ A0 i ≤ 1) ∧ (0 ≤ A1 i ∧ A1 i ≤ 1) := by
    intro i
    have e := congrFun h i
    have e' : IntOp.andi (IntOp.andi (IntOp.andi (BitVec.ofBool (decide (Ideal.ofBits .f32 0x00000000#32 ≤ A0 i)))
        (BitVec.ofBool (decide (A0 i ≤ Ideal.ofBits .f32 0x3F800000#32)))) (BitVec.ofBool (decide (Ideal.ofBits .f32 0x00000000#32 ≤ A1 i))))
        (BitVec.ofBool (decide (A1 i ≤ Ideal.ofBits .f32 0x3F800000#32))) = 1#1 := e
    rw [bits_zero, bits_one] at e'
    simp only [and_bit, bit_true, decide_eq_true_eq, EReal.coe_zero, EReal.coe_one] at e'
    exact ⟨⟨of_decide_eq_true e'.1.1.1, of_decide_eq_true e'.1.1.2⟩, of_decide_eq_true e'.1.2, of_decide_eq_true e'.2⟩
  exact ⟨fun i => (key i).1, fun i => (key i).2⟩

/-! ## The claim -/

/-- The kernel and the reference, run from memories that agree on the four arguments, end with the same result on every device,
    the arguments as they were. -/
theorem algebraic_claim : Cert.algebraic_KernelIdeal_ReferenceIdeal_pre_unit_range := by
  intro m g m' g' hpre hargs
  refine ⟨fun c => outV (F := Ideal) m c, (θ_run Cert.KernelIdeal.defs _ _).mono (fun _ h c => h.1 c) (run_main (F := Ideal) m g),
    (θ_run Cert.ReferenceIdeal.defs _ _).mono (fun _ h c => ?_) (Cert.ReferenceIdeal.Value.run (F := Ideal) m' g')⟩
  obtain ⟨hv, hkeep⟩ := h c
  obtain ⟨a0, a1, a2, a3⟩ := hargs c
  obtain ⟨u0, u1⟩ := unit_of_pre _ _ _ _ (hpre c)
  refine ⟨hv.trans ?_, hkeep⟩
  rw [res_eq m' c _ _ _ _ a0 a1 a2 a3]
  refine (value_eq u0 u1 _ _ _ _ (fun j => ?_) (fun j => ?_)).symm
  · unfold Cert.KernelIdeal.Gen.k0_pay39
    rw [shapeCast_self]
    exact congrArg (ethA m c) (funext fun a => Fin.ext (by fin_cases a; rfl))
  · unfold Cert.KernelIdeal.Gen.k0_pay40
    rw [shapeCast_self]
    exact congrArg (uthA m c) (funext fun a => Fin.ext (by fin_cases a; rfl))

end Cert.Proof

end
-- ==== Proof.TanhBound.lean ====
/-
  The polynomial against the hyperbolic tangent on the unit interval: they differ by at most a 260th of the tangent, and by at
  most a 260th of one minus the tangent.
-/
module

public import proofs.«01_k».proof.Proof.Scalars
public import Mathlib.Analysis.SpecialFunctions.Exponential
public import Mathlib.Analysis.Complex.Exponential

@[expose] public section

noncomputable section

namespace Cert.Proof

/-! ## The polynomial against the partial sums of the series -/

/-- The even part's and the odd part's partial sums, at the square of the argument: of the hyperbolic cosine, and of the
    hyperbolic sine over its argument. -/
def evenPart (z : ℝ) : ℝ := 1 + z / 2 + z ^ 2 / 24 + z ^ 3 / 720 + z ^ 4 / 40320
def oddPart (z : ℝ) : ℝ := 1 + z / 6 + z ^ 2 / 120 + z ^ 3 / 5040 + z ^ 4 / 362880

/-- The polynomial's bracket times the one exceeds the other by at most 0.0014: the difference to the bound is a sum of
    products of powers of `z` and of `1 - z` with positive coefficients. -/
theorem series_upper (z : ℝ) (h0 : 0 ≤ z) (h1 : z ≤ 1) : (c0 + z * (c1 + z * c2)) * evenPart z - oddPart z ≤ 1399 / 1000000 := by
  have h : 0 ≤ 1 - z := sub_nonneg.2 h1
  have e : 1399 / 1000000 - ((c0 + z * (c1 + z * c2)) * evenPart z - oddPart z) =
      (587286331 / 262144000000 : ℝ) * (z ^ 0 * (1 - z) ^ 13)
        + (9804791909 / 786432000000 : ℝ) * (z ^ 1 * (1 - z) ^ 12)
        + (126821983507 / 6291456000000 : ℝ) * (z ^ 2 * (1 - z) ^ 11)
        + (521275260013 / 44040192000000 : ℝ) * (z ^ 3 * (1 - z) ^ 10)
        + (562370344259683 / 3805072588800000 : ℝ) * (z ^ 4 * (1 - z) ^ 9)
        + (3531801457847491 / 4227858432000000 : ℝ) * (z ^ 5 * (1 - z) ^ 8)
        + (18267744530181851 / 8455716864000000 : ℝ) * (z ^ 6 * (1 - z) ^ 7)
        + (11955673720566329 / 3623878656000000 : ℝ) * (z ^ 7 * (1 - z) ^ 6)
        + (3920308555915801 / 1207959552000000 : ℝ) * (z ^ 8 * (1 - z) ^ 5)
        + (506748290928839 / 241591910400000 : ℝ) * (z ^ 9 * (1 - z) ^ 4)
        + (21991355641589363 / 25367150592000000 : ℝ) * (z ^ 10 * (1 - z) ^ 3)
        + (1769276573942783 / 8455716864000000 : ℝ) * (z ^ 11 * (1 - z) ^ 2)
        + (192495760021193 / 8455716864000000 : ℝ) * (z ^ 12 * (1 - z) ^ 1)
        + (7276794050249 / 76101451776000000 : ℝ) * (z ^ 13 * (1 - z) ^ 0) := by
    unfold evenPart oddPart c0 c1 c2; ring
  have p : 0 ≤ 1399 / 1000000 - ((c0 + z * (c1 + z * c2)) * evenPart z - oddPart z) := by rw [e]; positivity
  linarith

/-- And falls short of it by at most as much. -/
theorem series_lower (z : ℝ) (h0 : 0 ≤ z) (h1 : z ≤ 1) : -(1399 / 1000000) ≤ (c0 + z * (c1 + z * c2)) * evenPart z - oddPart z := by
  have h : 0 ≤ 1 - z := sub_nonneg.2 h1
  have e : 1399 / 1000000 + ((c0 + z * (c1 + z * c2)) * evenPart z - oddPart z) =
      (146192581 / 262144000000 : ℝ) * (z ^ 0 * (1 - z) ^ 25)
        + (962552743 / 31457280000 : ℝ) * (z ^ 1 * (1 - z) ^ 24)
        + (131308184453 / 251658240000 : ℝ) * (z ^ 2 * (1 - z) ^ 23)
        + (8571892641311 / 1761607680000 : ℝ) * (z ^ 3 * (1 - z) ^ 22)
        + (3253082541504223 / 108716359680000 : ℝ) * (z ^ 4 * (1 - z) ^ 21)
        + (337096972660140979 / 2536715059200000 : ℝ) * (z ^ 5 * (1 - z) ^ 20)
        + (455655092843619847 / 1014686023680000 : ℝ) * (z ^ 6 * (1 - z) ^ 19)
        + (518797730549017021 / 434865438720000 : ℝ) * (z ^ 7 * (1 - z) ^ 18)
        + (860759277326994443 / 338228674560000 : ℝ) * (z ^ 8 * (1 - z) ^ 17)
        + (1494309658768693559 / 338228674560000 : ℝ) * (z ^ 9 * (1 - z) ^ 16)
        + (7978138460333155979 / 1268357529600000 : ℝ) * (z ^ 10 * (1 - z) ^ 15)
        + (622728315707276339 / 84557168640000 : ℝ) * (z ^ 11 * (1 - z) ^ 14)
        + (598223170374296333 / 84557168640000 : ℝ) * (z ^ 12 * (1 - z) ^ 13)
        + (2104395567388662811 / 380507258880000 : ℝ) * (z ^ 13 * (1 - z) ^ 12)
        + (250709507742855487 / 72477573120000 : ℝ) * (z ^ 14 * (1 - z) ^ 11)
        + (4254168596864340083 / 2536715059200000 : ℝ) * (z ^ 15 * (1 - z) ^ 10)
        + (900902096978017453 / 1522029035520000 : ℝ) * (z ^ 16 * (1 - z) ^ 9)
        + (22231212163240909 / 169114337280000 : ℝ) * (z ^ 17 * (1 - z) ^ 8)
        + (984091748242577 / 84557168640000 : ℝ) * (z ^ 18 * (1 - z) ^ 7)
        + (616193307171493 / 253671505920000 : ℝ) * (z ^ 19 * (1 - z) ^ 6)
        + (596936094141421 / 105696460800000 : ℝ) * (z ^ 20 * (1 - z) ^ 5)
        + (97326869084869 / 24159191040000 : ℝ) * (z ^ 21 * (1 - z) ^ 4)
        + (4669758788201533 / 3044058071040000 : ℝ) * (z ^ 22 * (1 - z) ^ 3)
        + (355816786209121 / 1014686023680000 : ℝ) * (z ^ 23 * (1 - z) ^ 2)
        + (46713509105833 / 1014686023680000 : ℝ) * (z ^ 24 * (1 - z) ^ 1)
        + (205655068018999 / 76101451776000000 : ℝ) * (z ^ 25 * (1 - z) ^ 0) := by
    unfold evenPart oddPart c0 c1 c2; ring
  have p : 0 ≤ 1399 / 1000000 + ((c0 + z * (c1 + z * c2)) * evenPart z - oddPart z) := by rw [e]; positivity
  linarith

/-! ## The hyperbolic functions against their partial sums -/

/-- The exponential of an argument of absolute value at most one, against ten terms of its series. -/
theorem exp_ten (x : ℝ) (h : |x| ≤ 1) : |Real.exp x - (evenPart (x * x) + x * oddPart (x * x))| ≤ |x| ^ 10 * (11 / 36288000) := by
  have e := Real.exp_bound h (n := 10) (by norm_num)
  have s : ∑ m ∈ Finset.range 10, x ^ m / (m.factorial : ℝ) = evenPart (x * x) + x * oddPart (x * x) := by
    unfold evenPart oddPart
    simp only [Finset.sum_range_succ, Finset.sum_range_zero, Nat.factorial]
    push_cast
    ring
  rw [s] at e
  refine e.trans (mul_le_mul_of_nonneg_left ?_ (by positivity))
  norm_num [Nat.factorial]

theorem cosh_ten (x : ℝ) (h0 : 0 ≤ x) (h1 : x ≤ 1) : |Real.cosh x - evenPart (x * x)| ≤ x * (11 / 36288000) := by
  have a := exp_ten x (by rw [abs_of_nonneg h0]; exact h1)
  have b := exp_ten (-x) (by rw [abs_neg, abs_of_nonneg h0]; exact h1)
  rw [neg_mul_neg, abs_neg] at b
  rw [abs_of_nonneg h0] at a b
  have p : x ^ 10 ≤ x := by simpa using pow_le_pow_of_le_one h0 h1 (show 1 ≤ 10 by norm_num)
  have q : x ^ 10 * (11 / 36288000 : ℝ) ≤ x * (11 / 36288000) := mul_le_mul_of_nonneg_right p (by norm_num)
  rw [abs_le] at a b ⊢
  rw [Real.cosh_eq]
  obtain ⟨a1, a2⟩ := a
  obtain ⟨b1, b2⟩ := b
  constructor <;> linarith

theorem sinh_ten (x : ℝ) (h0 : 0 ≤ x) (h1 : x ≤ 1) : |Real.sinh x - x * oddPart (x * x)| ≤ x * (11 / 36288000) := by
  have a := exp_ten x (by rw [abs_of_nonneg h0]; exact h1)
  have b := exp_ten (-x) (by rw [abs_neg, abs_of_nonneg h0]; exact h1)
  rw [neg_mul_neg, abs_neg] at b
  rw [abs_of_nonneg h0] at a b
  have p : x ^ 10 ≤ x := by simpa using pow_le_pow_of_le_one h0 h1 (show 1 ≤ 10 by norm_num)
  have q : x ^ 10 * (11 / 36288000 : ℝ) ≤ x * (11 / 36288000) := mul_le_mul_of_nonneg_right p (by norm_num)
  rw [abs_le] at a b ⊢
  rw [Real.sinh_eq]
  obtain ⟨a1, a2⟩ := a
  obtain ⟨b1, b2⟩ := b
  constructor <;> linarith

/-- The polynomial times the cosine against the sine. -/
theorem poly_cosh (x : ℝ) (h0 : 0 ≤ x) (h1 : x ≤ 1) : |poly x * Real.cosh x - Real.sinh x| ≤ x * (7 / 5000) := by
  have z0 : 0 ≤ x * x := mul_self_nonneg x
  have z1 : x * x ≤ 1 := by nlinarith
  have u := mul_le_mul_of_nonneg_left (series_upper (x * x) z0 z1) h0
  have l := mul_le_mul_of_nonneg_left (series_lower (x * x) z0 z1) h0
  have c := cosh_ten x h0 h1
  have s := abs_le.1 (sinh_ten x h0 h1)
  have pc : |poly x * (Real.cosh x - evenPart (x * x))| ≤ x * (11 / 36288000) := by
    rw [abs_mul, abs_of_nonneg (poly_nonneg h0 h1)]
    calc poly x * |Real.cosh x - evenPart (x * x)| ≤ 1 * |Real.cosh x - evenPart (x * x)| :=
          mul_le_mul_of_nonneg_right (poly_le_one h0 h1) (abs_nonneg _)
      _ ≤ x * (11 / 36288000) := by rw [one_mul]; exact c
  have pc := abs_le.1 pc
  have e : poly x * Real.cosh x - Real.sinh x = poly x * (Real.cosh x - evenPart (x * x))
      + x * ((c0 + x * x * (c1 + x * x * c2)) * evenPart (x * x) - oddPart (x * x)) - (Real.sinh x - x * oddPart (x * x)) := by
    unfold poly; ring
  rw [e, abs_le]
  constructor <;> linarith

/-! ## The two bounds -/

theorem tanh_mul_cosh (x : ℝ) : Real.tanh x * Real.cosh x = Real.sinh x := by
  rw [Real.tanh_eq_sinh_div_cosh, div_mul_cancel₀ _ (Real.cosh_pos x).ne']

/-- Against the tangent. -/
theorem poly_tanh (x : ℝ) (h0 : 0 ≤ x) (h1 : x ≤ 1) : |poly x - Real.tanh x| ≤ 1 / 260 * Real.tanh x := by
  have hc := Real.cosh_pos x
  have hs : x ≤ Real.sinh x := Real.self_le_sinh_iff.2 h0
  have e : |poly x - Real.tanh x| * Real.cosh x = |poly x * Real.cosh x - Real.sinh x| := by
    rw [← tanh_mul_cosh, ← sub_mul, abs_mul, abs_of_pos hc]
  refine le_of_mul_le_mul_right ?_ hc
  rw [e, mul_assoc, tanh_mul_cosh]
  have := poly_cosh x h0 h1
  linarith

/-- Against one minus the tangent. -/
theorem poly_one_sub_tanh (x : ℝ) (h0 : 0 ≤ x) (h1 : x ≤ 1) : |poly x - Real.tanh x| ≤ 1 / 260 * (1 - Real.tanh x) := by
  have hc := Real.cosh_pos x
  have e : |poly x - Real.tanh x| * Real.cosh x = |poly x * Real.cosh x - Real.sinh x| := by
    rw [← tanh_mul_cosh, ← sub_mul, abs_mul, abs_of_pos hc]
  refine le_of_mul_le_mul_right ?_ hc
  rw [e, mul_assoc, sub_mul, one_mul, tanh_mul_cosh]
  have ex : Real.cosh x - Real.sinh x = Real.exp (-x) := by rw [Real.cosh_eq, Real.sinh_eq]; ring
  have m : Real.exp (-1) ≤ Real.exp (-x) := Real.exp_le_exp.2 (by linarith)
  have t := abs_le.1 (exp_ten (-1) (by norm_num))
  have v : evenPart (-1 * -1) + -1 * oddPart (-1 * -1) = 16687 / 45360 := by unfold evenPart oddPart; norm_num
  rw [v] at t
  have t1 := t.1
  norm_num at t1
  have := poly_cosh x h0 h1
  rw [ex]
  have : x * (7 / 5000) ≤ 7 / 5000 := by linarith
  linarith

end Cert.Proof

end
-- ==== Proof.NearExact.lean ====
/-
  The distance of the kernel's result from the exact loss: where every error and every uncertainty lies between zero and one,
  the result is within one sixty-fourth of the loss taken with the hyperbolic tangent of every sample.
-/
module

public import proofs.«01_k».proof.Proof.Algebraic
public import proofs.«01_k».proof.Proof.TanhBound
public import Mathlib.Analysis.SpecialFunctions.Log.Basic

@[expose] public section

noncomputable section

namespace Cert.Proof

open Idealize.ShloMosaic Idealize.SL.Sem
open Cert.KernelIdeal (S_ S1 S16777216)

/-! ## Two sets of weights -/

/-- The least and the greatest ratio of a weight with the kernel's tangents to the exact weight. -/
def lo : ℝ := (259 / 260) ^ 2
def hi : ℝ := (261 / 260) ^ 2

/-- `y` is `x` up to the two ratios. -/
def Near (x y : ℝ) : Prop := 0 ≤ x ∧ lo * x ≤ y ∧ y ≤ hi * x

/-- Sums of near numbers are near. -/
theorem near_sum (f g : ℕ → ℝ) (N : ℕ) (h : ∀ n, Near (f n) (g n)) : Near (∑ n ∈ Finset.range N, f n) (∑ n ∈ Finset.range N, g n) := by
  refine ⟨Finset.sum_nonneg fun n _ => (h n).1, ?_, ?_⟩
  · rw [Finset.mul_sum]; exact Finset.sum_le_sum fun n _ => (h n).2.1
  · rw [Finset.mul_sum]; exact Finset.sum_le_sum fun n _ => (h n).2.2

/-- A factor of a weight lies within one part in 260 of the exact factor. -/
theorem factor_near (a : Bool) (x x' : ℝ) (hx : 0 ≤ x ∧ x ≤ 1) (h : |x' - x| ≤ 1 / 260 * x) (k : |x' - x| ≤ 1 / 260 * (1 - x)) :
    0 ≤ (if a then 1 - x else x) ∧ 259 / 260 * (if a then 1 - x else x) ≤ (if a then 1 - x' else x')
      ∧ (if a then 1 - x' else x') ≤ 261 / 260 * (if a then 1 - x else x) := by
  rw [abs_le] at h k
  obtain ⟨h1, h2⟩ := h
  obtain ⟨k1, k2⟩ := k
  obtain ⟨x0, x1⟩ := hx
  cases a
  · simp only [Bool.false_eq_true, if_false]; exact ⟨x0, by linarith, by linarith⟩
  · simp only [if_true]; exact ⟨by linarith, by linarith, by linarith⟩

/-- The weights are near. -/
theorem weight_near (a b : Bool) (x x' y y' : ℝ) (hx : 0 ≤ x ∧ x ≤ 1) (h : |x' - x| ≤ 1 / 260 * x) (k : |x' - x| ≤ 1 / 260 * (1 - x))
    (hy : 0 ≤ y ∧ y ≤ 1) (h' : |y' - y| ≤ 1 / 260 * y) (k' : |y' - y| ≤ 1 / 260 * (1 - y)) :
    Near (weight a b x y) (weight a b x' y') := by
  obtain ⟨p0, p1, p2⟩ := factor_near a x x' hx h k
  obtain ⟨q0, q1, q2⟩ := factor_near b y y' hy h' k'
  unfold Near weight lo hi
  generalize (if a then 1 - x else x) = p at *
  generalize (if a then 1 - x' else x') = p' at *
  generalize (if b then 1 - y else y) = q at *
  generalize (if b then 1 - y' else y') = q' at *
  have p3 : 0 ≤ 259 / 260 * p := by positivity
  have q3 : 0 ≤ 259 / 260 * q := by positivity
  refine ⟨mul_nonneg p0 q0, ?_, ?_⟩
  · have := mul_le_mul p1 q1 q3 (p3.trans p1)
    calc _ = 259 / 260 * p * (259 / 260 * q) := by ring
      _ ≤ _ := this
  · have := mul_le_mul p2 q2 (q3.trans q1) (by positivity)
    calc _ ≤ 261 / 260 * p * (261 / 260 * q) := this
      _ = _ := by ring

/-- So are the weights on the diagonal. -/
theorem agree_near (a b : Bool) (x x' y y' : ℝ) (h : Near (weight a b x y) (weight a b x' y')) :
    Near (agree a b x y) (agree a b x' y') := by
  unfold agree
  by_cases e : a = b
  · rw [if_pos e, if_pos e]; exact h
  · rw [if_neg e, if_neg e]; exact ⟨le_refl _, by simp, by simp⟩

/-! ## The logarithms -/

/-- The quotient plus `e` grows by at most the ratio of the two ratios. -/
theorem quot_le (N D N' D' e : ℝ) (he : 0 < e) (hD : 0 ≤ D) (hN : Near N N') (hD' : Near D D') :
    N' / (D' + e) + e ≤ hi / lo * (N / (D + e) + e) ∧ N / (D + e) + e ≤ hi / lo * (N' / (D' + e) + e) := by
  obtain ⟨n0, n1, n2⟩ := hN
  obtain ⟨_, d1, d2⟩ := hD'
  have l0 : 0 < lo := by unfold lo; norm_num
  have l1 : lo ≤ 1 := by unfold lo; norm_num
  have u0 : 0 < hi := by unfold hi; norm_num
  have u1 : 1 ≤ hi := by unfold hi; norm_num
  have k1 : 1 ≤ hi / lo := by rw [le_div_iff₀ l0]; linarith
  have n3 : 0 ≤ N' := (mul_nonneg l0.le n0).trans n1
  have d3 : 0 ≤ D' := (mul_nonneg l0.le hD).trans d1
  have a : 0 < D + e := by linarith
  have a' : 0 < D' + e := by linarith
  have b1 : lo * (D + e) ≤ D' + e := by nlinarith
  have b2 : D' + e ≤ hi * (D + e) := by nlinarith
  have ke : e ≤ hi / lo * e := by nlinarith
  constructor
  · have : N' / (D' + e) ≤ hi / lo * (N / (D + e)) := by
      rw [div_mul_div_comm]
      exact div_le_div₀ (by positivity) n2 (by positivity) b1
    linarith [mul_add (hi / lo) (N / (D + e)) e]
  · have : N / (D + e) ≤ hi / lo * (N' / (D' + e)) := by
      rw [div_mul_div_comm, div_le_div_iff₀ a (by positivity)]
      calc N * (lo * (D' + e)) = (lo * N) * (D' + e) := by ring
        _ ≤ N' * (hi * (D + e)) := mul_le_mul n1 b2 a'.le n3
        _ = _ := by ring
    linarith [mul_add (hi / lo) (N' / (D' + e)) e]

/-- Where `v` is at most the ratio of the two ratios times `u`, its logarithm is at most one sixty-fourth more. -/
theorem log_step (u v : ℝ) (hu : 0 < u) (hv : 0 < v) (h : v ≤ hi / lo * u) : Real.log v - Real.log u ≤ 1 / 64 := by
  rw [← Real.log_div hv.ne' hu.ne']
  have a := Real.log_le_sub_one_of_pos (div_pos hv hu)
  have b : v / u ≤ hi / lo := (div_le_iff₀ hu).2 h
  have c : hi / lo ≤ 1 + 1 / 64 := by unfold hi lo; norm_num
  linarith

/-- The two losses differ by at most one sixty-fourth. -/
theorem log_near (N D N' D' e : ℝ) (he : 0 < e) (hN : Near N N') (hD : Near D D') :
    |-1 * Real.log (N' / (D' + e) + e) - -1 * Real.log (N / (D + e) + e)| ≤ 1 / 64 := by
  have l0 : 0 < lo := by unfold lo; norm_num
  have n3 : 0 ≤ N' := (mul_nonneg l0.le hN.1).trans hN.2.1
  have d3 : 0 ≤ D' := (mul_nonneg l0.le hD.1).trans hD.2.1
  have d0 := hD.1
  have n0 := hN.1
  have u : 0 < N / (D + e) + e := by positivity
  have v : 0 < N' / (D' + e) + e := by positivity
  obtain ⟨p, q⟩ := quot_le N D N' D' e he hD.1 hN hD
  rw [abs_le]
  constructor
  · linarith [log_step _ _ u v p]
  · linarith [log_step _ _ v u q]

/-! ## The programs' result from real sums -/

/-- The small number the texts add to a denominator and to a quotient. -/
def eps : ℝ := ((2 ^ 23 + 6022911 : ℕ) : ℝ) / 2 ^ 57

theorem eps_pos : 0 < eps := by unfold eps; positivity

theorem bits_eps : Ideal.ofBits .f32 0x2EDBE6FF#32 = (eps : EReal) :=
  bits_normal _ false 93 6022911 _ (by decide) (by decide) (by decide) (by decide) (by decide) (by norm_num [zpow_neg, eps])
theorem bits_neg_one : Ideal.ofBits .f32 0xBF800000#32 = ((-1 : ℝ) : EReal) :=
  bits_normal _ true 127 0 _ (by decide) (by decide) (by decide) (by decide) (by decide) (by norm_num [zpow_neg])
theorem bits_bound : Ideal.ofBits .f32 0x3C800000#32 = ((1 / 64 : ℝ) : EReal) :=
  bits_normal _ false 121 0 _ (by decide) (by decide) (by decide) (by decide) (by decide) (by norm_num [zpow_neg])

/-- The result is minus the logarithm of the quotient, all over the real numbers, where the four sums are real and none of the
    two combinations is negative. -/
theorem refOut_real (lc lu hc hu : FVec Ideal S_ .f32) (a b c d : ℝ) (j : S_.Idx) (ha : lc j = (a : EReal)) (hb : lu j = (b : EReal))
    (hC : hc j = (c : EReal)) (hd : hu j = (d : EReal)) (hn : 0 ≤ a + d) (hs : 0 ≤ a + b + c + d) :
    refOut lc lu hc hu j = ((-1 * Real.log ((a + d) / (a + b + c + d + eps) + eps) : ℝ) : EReal) := by
  have e := eps_pos
  have s : 0 < a + b + c + d + eps := by linarith
  have u : 0 < (a + d) / (a + b + c + d + eps) + eps := by positivity
  show (Ideal.ofBits .f32 0xBF800000#32 * Ideal.log (Ideal.div (lc j + hu j) (lc j + lu j + hc j + hu j + Ideal.ofBits .f32 0x2EDBE6FF#32)
      + Ideal.ofBits .f32 0x2EDBE6FF#32) : EReal) = _
  rw [ha, hb, hC, hd, bits_eps, bits_neg_one, ← EReal.coe_add, ← EReal.coe_add, ← EReal.coe_add, ← EReal.coe_add, ← EReal.coe_add,
    Ideal.div_coe s.ne', ← EReal.coe_mul, mul_one_div, ← EReal.coe_add, Ideal.log_coe, if_neg (not_le.2 u), ← EReal.coe_mul]

/-! ## The exact tangents -/

section Exact

variable {A A0 A1 : S16777216.Idx → EReal}

/-- The exact tangent of an element. -/
theorem tanh_val (hA : InUnit A) (n : ℕ) (h : n < 16777216) :
    Host.tanh (F := Ideal) (s := S16777216) (φ := .f32) A (ix1 ⟨n, h⟩) = ((Real.tanh (val A n) : ℝ) : EReal) := by
  show Ideal.tanh (A (ix1 ⟨n, h⟩)) = _
  rw [val_eq hA n h, Ideal.tanh_coe]

/-- The programs' tangent lies within one part in 260 of the exact one. -/
theorem tv_near (hA : InUnit A) (n : ℕ) : |tv A n - Real.tanh (val A n)| ≤ 1 / 260 * Real.tanh (val A n) := by
  unfold tv; split
  · rw [sub_self, abs_zero]; have := tanh_nonneg' (val_nonneg hA n); positivity
  · exact poly_tanh _ (val_nonneg hA n) (val_le_one hA n)
/-- And within one part in 260 of its distance from one. -/
theorem tv_near_one (hA : InUnit A) (n : ℕ) : |tv A n - Real.tanh (val A n)| ≤ 1 / 260 * (1 - Real.tanh (val A n)) := by
  unfold tv; split
  · rw [sub_self, abs_zero]; have := tanh_le_one' (val A n); linarith
  · exact poly_one_sub_tanh _ (val_nonneg hA n) (val_le_one hA n)

/-- The four classes' sums together, for any tangents. -/
theorem all_sum (a b : ℕ → Bool) (x y : ℕ → ℝ) (N : ℕ) :
    ∑ n ∈ Finset.range N, part true true (a n) (b n) (x n) (y n) + ∑ n ∈ Finset.range N, part true false (a n) (b n) (x n) (y n)
        + ∑ n ∈ Finset.range N, part false true (a n) (b n) (x n) (y n) + ∑ n ∈ Finset.range N, part false false (a n) (b n) (x n) (y n)
      = ∑ n ∈ Finset.range N, weight (a n) (b n) (x n) (y n) := by
  rw [← Finset.sum_add_distrib, ← Finset.sum_add_distrib, ← Finset.sum_add_distrib]
  exact Finset.sum_congr rfl fun n _ => part_all _ _ _ _
/-- The two on the diagonal. -/
theorem diag_sum (a b : ℕ → Bool) (x y : ℕ → ℝ) (N : ℕ) :
    ∑ n ∈ Finset.range N, part true true (a n) (b n) (x n) (y n) + ∑ n ∈ Finset.range N, part false false (a n) (b n) (x n) (y n)
      = ∑ n ∈ Finset.range N, agree (a n) (b n) (x n) (y n) := by
  rw [← Finset.sum_add_distrib]
  exact Finset.sum_congr rfl fun n _ => part_diag _ _ _ _

/-- The loss with an array in each tangent's place. -/
def lossOf (A0 A1 T0 T1 : FVec Ideal S16777216 .f32) (s t : FVec Ideal S1 .f32) : FVec Ideal S_ .f32 :=
  refOut (refSum (refTerm (refCmp .ole A0 s) (refCmp .ole A1 t) (refOneMinus T0) (refOneMinus T1)))
    (refSum (refTerm (refCmp .ole A0 s) (refCmp .ogt A1 t) (refOneMinus T0) T1))
    (refSum (refTerm (refCmp .ogt A0 s) (refCmp .ole A1 t) T0 (refOneMinus T1)))
    (refSum (refTerm (refCmp .ogt A0 s) (refCmp .ogt A1 t) T0 T1))

variable (h0 : InUnit A0) (h1 : InUnit A1) (s t : FVec Ideal S1 .f32)
include h0 h1

/-- The loss over real numbers, where the arrays in the tangents' places hold numbers between zero and one. -/
theorem lossOf_val (T0 T1 : FVec Ideal S16777216 .f32) (τ0 τ1 : ℕ → ℝ)
    (hT0 : ∀ (n : ℕ) (hn : n < 16777216), T0 (ix1 ⟨n, hn⟩) = (τ0 n : EReal))
    (hT1 : ∀ (n : ℕ) (hn : n < 16777216), T1 (ix1 ⟨n, hn⟩) = (τ1 n : EReal))
    (u0 : ∀ n, 0 ≤ τ0 n ∧ τ0 n ≤ 1) (u1 : ∀ n, 0 ≤ τ1 n ∧ τ1 n ≤ 1) (j : S_.Idx) :
    lossOf A0 A1 T0 T1 s t j
      = ((-1 * Real.log ((∑ n ∈ Finset.range 16777216, agree (low A0 (s (ix1 0)) n) (low A1 (t (ix1 0)) n) (τ0 n) (τ1 n))
          / (∑ n ∈ Finset.range 16777216, weight (low A0 (s (ix1 0)) n) (low A1 (t (ix1 0)) n) (τ0 n) (τ1 n) + eps) + eps) : ℝ) : EReal) := by
  have w : ∀ n, 0 ≤ weight (low A0 (s (ix1 0)) n) (low A1 (t (ix1 0)) n) (τ0 n) (τ1 n) := fun n =>
    weight_nonneg _ _ (u0 n).1 (u0 n).2 (u1 n).1 (u1 n).2
  have g : ∀ n, 0 ≤ agree (low A0 (s (ix1 0)) n) (low A1 (t (ix1 0)) n) (τ0 n) (τ1 n) := fun n => by
    unfold agree; split
    · exact w n
    · exact le_refl _
  have ea := all_sum (low A0 (s (ix1 0))) (low A1 (t (ix1 0))) τ0 τ1 16777216
  have ed := diag_sum (low A0 (s (ix1 0))) (low A1 (t (ix1 0))) τ0 τ1 16777216
  have r := refOut_real _ _ _ _ _ _ _ _ j (sum_lc h0 h1 s t T0 T1 τ0 τ1 hT0 hT1 j) (sum_lu h0 h1 s t T0 T1 τ0 τ1 hT0 hT1 j)
    (sum_hc h0 h1 s t T0 T1 τ0 τ1 hT0 hT1 j) (sum_hu h0 h1 s t T0 T1 τ0 τ1 hT0 hT1 j)
    (by rw [ed]; exact Finset.sum_nonneg fun n _ => g n) (by rw [ea]; exact Finset.sum_nonneg fun n _ => w n)
  rw [ea, ed] at r
  exact r

/-- The loss with the programs' tangents and the exact loss differ by at most one sixty-fourth. -/
theorem loss_near (j : S_.Idx) : ∃ x y : ℝ, lossOf A0 A1 (refTanh A0) (refTanh A1) s t j = (x : EReal)
    ∧ lossOf A0 A1 (Host.tanh (A0 : FVec Ideal S16777216 .f32)) (Host.tanh (A1 : FVec Ideal S16777216 .f32)) s t j = (y : EReal)
    ∧ |x - y| ≤ 1 / 64 := by
  have th : ∀ {A : S16777216.Idx → EReal}, InUnit A → ∀ n, 0 ≤ Real.tanh (val A n) ∧ Real.tanh (val A n) ≤ 1 := fun hA n =>
    ⟨tanh_nonneg' (val_nonneg hA n), tanh_le_one' _⟩
  have w : ∀ n, Near (weight (low A0 (s (ix1 0)) n) (low A1 (t (ix1 0)) n) (Real.tanh (val A0 n)) (Real.tanh (val A1 n)))
      (weight (low A0 (s (ix1 0)) n) (low A1 (t (ix1 0)) n) (tv A0 n) (tv A1 n)) := fun n =>
    weight_near _ _ _ _ _ _ (th h0 n) (tv_near h0 n) (tv_near_one h0 n) (th h1 n) (tv_near h1 n) (tv_near_one h1 n)
  refine ⟨_, _, lossOf_val h0 h1 s t _ _ _ _ (refTanh_val h0) (refTanh_val h1) (fun n => ⟨tv_nonneg h0 n, tv_le_one h0 n⟩)
    (fun n => ⟨tv_nonneg h1 n, tv_le_one h1 n⟩) j, lossOf_val h0 h1 s t _ _ _ _ (tanh_val h0) (tanh_val h1) (th h0) (th h1) j, ?_⟩
  exact log_near _ _ _ _ _ eps_pos (near_sum _ _ _ fun n => agree_near _ _ _ _ _ _ (w n)) (near_sum _ _ _ w)

end Exact

/-! ## The claim -/

/-- The side conditions of the predicate's text: those of the reference's. -/
instance post_facts : Cert.Post_near_exact.Facts where
  bcast_S1_S16777216_0 := Cert.ReferenceIdeal.Gen.bcast_S1_S16777216_0
  bcast_S_S16777216 := Cert.ReferenceIdeal.Gen.bcast_S_S16777216
  reducesTo_S16777216_S_d0 := Cert.ReferenceIdeal.Gen.reducesTo_S16777216_S_d0
  h_S_ := Cert.ReferenceIdeal.Gen.h_S_

/-- The predicate compares the result's distance from the exact loss with its bound. -/
theorem post_eq (A0 A1 : FVec Ideal S16777216 .f32) (s t : FVec Ideal S1 .f32) (out : FVec Ideal S_ .f32) :
    Cert.Post_near_exact.fn (F := Ideal) A0 A1 s t out
      = cmpf .ole (Host.absf (subf out (lossOf A0 A1 (Host.tanh A0) (Host.tanh A1) s t))) (constant S_ .f32 0x3C800000#32) := rfl

/-- The distance of two real numbers, compared with a bound that it does not pass. -/
theorem dist_bit (l e : EReal) (x y r : ℝ) (hl : l = (x : EReal)) (he : e = (y : EReal)) (h : |x - y| ≤ r) :
    Ideal.cmp .ole (max (l - e) (-(l - e))) (r : EReal) = 1#1 := by
  have k : max (l - e) (-(l - e)) ≤ (r : EReal) := by
    rw [hl, he, ← EReal.coe_sub, ← EReal.coe_neg]
    exact max_le (EReal.coe_le_coe_iff.2 ((le_abs_self _).trans h)) (EReal.coe_le_coe_iff.2 ((neg_le_abs _).trans h))
  rw [cmp_ole, bit_true]
  exact decide_eq_true k

/-- The predicate's comparison, of two arrays of real numbers within the bound of each other. -/
theorem post_bit (L E : FVec Ideal S_ .f32) (h : ∀ j, ∃ x y : ℝ, L j = (x : EReal) ∧ E j = (y : EReal) ∧ |x - y| ≤ 1 / 64) :
    cmpf .ole (Host.absf (subf L E)) (constant S_ .f32 0x3C800000#32) = fun _ => 1#1 := by
  funext j
  obtain ⟨x, y, hx, hy, h⟩ := h j
  refine Eq.trans (b := Ideal.cmp .ole (max (L j - E j) (-(L j - E j)) : EReal) (Ideal.ofBits .f32 0x3C800000#32)) rfl ?_
  rw [bits_bound]
  exact dist_bit _ _ x y _ hx hy h

/-- The predicate holds of the loss with the programs' tangents. -/
theorem post_holds {A0 A1 : S16777216.Idx → EReal} (h0 : InUnit A0) (h1 : InUnit A1) (s t : FVec Ideal S1 .f32) :
    Cert.Post_near_exact.fn (F := Ideal) A0 A1 s t (lossOf A0 A1 (refTanh A0) (refTanh A1) s t) = fun _ => 1#1 :=
  (post_eq A0 A1 s t _).trans (post_bit _ _ (loss_near h0 h1 s t))

/-- The kernel's result lies within one sixty-fourth of the exact loss, where every error and every uncertainty lies between
    zero and one. -/
theorem holds_claim : Cert.holds_KernelIdeal_near_exact_pre_unit_range := by
  intro m g hpre
  refine (θ_run Cert.KernelIdeal.defs _ _).mono (fun r h c => ?_) (run_main (F := Ideal) m g)
  obtain ⟨hv, k0, k1, k2, k3⟩ := h.1 c
  obtain ⟨u0, u1⟩ := unit_of_pre _ _ _ _ (hpre c)
  refine ⟨k0, k1, k2, k3, ?_⟩
  rw [hv, show outV (F := Ideal) m c = lossOf _ _ (refTanh _) (refTanh _) _ _ from value_eq u0 u1 _ _ _ _ (fun j => ?_) (fun j => ?_)]
  · exact post_holds u0 u1 _ _
  · unfold Cert.KernelIdeal.Gen.k0_pay39
    rw [shapeCast_self]
    exact congrArg (ethA m c) (funext fun a => Fin.ext (by fin_cases a; rfl))
  · unfold Cert.KernelIdeal.Gen.k0_pay40
    rw [shapeCast_self]
    exact congrArg (uthA m c) (funext fun a => Fin.ext (by fin_cases a; rfl))

end Cert.Proof

end
-- ==== Proof.lean ====
/-
  The claim: the frames of the three programs, that the idealization preserves the kernel, and that over extended reals the
  kernel and the reference have the same result where every error and every uncertainty lies between zero and one, the kernel's
  being there within one sixty-fourth of the exact loss.
-/
module

public import proofs.«01_k».proof.Defs
public import proofs.«01_k».proof.Proof.NearExact

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, pre_facts, post_facts,
  frame_kernel, frame_ideal, frame_ideal_pre, frame_reference, frame_reference_pre, trivial, algebraic_claim,
  holds_claim⟩

end Cert.Proof

end
